-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v10) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v7_0)) (v1 : (c : Dev Cert.DownIdeal.nD) → Buf (Elt Ideal) ((c.tc : Thread Cert.DownIdeal.nD Cert.DownIdeal.τ).loc Cert.DownIdeal.main_v7_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7_0) = v0 c
          ∧ r.2.mem ((c.tc : Thread Cert.DownIdeal.nD Cert.DownIdeal.τ).loc Cert.DownIdeal.main_v7_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_v20) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v11) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v28) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v7_0)) (v1 : (c : Dev Cert.OutIdeal.nD) → Buf (Elt Ideal) ((c.tc : Thread Cert.OutIdeal.nD Cert.OutIdeal.τ).loc Cert.OutIdeal.main_v7_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7_0) = v0 c
          ∧ r.2.mem ((c.tc : Thread Cert.OutIdeal.nD Cert.OutIdeal.τ).loc Cert.OutIdeal.main_v7_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_v20) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hGate : Cert.Gate.Facts) (hGateIdeal : Cert.GateIdeal.Facts) (hGateReferenceIdeal : Cert.GateReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Gate (hGate := hGate)
    ∧ quiescent_GateIdeal (hGateIdeal := hGateIdeal)
    ∧ quiescent_GateReferenceIdeal (hGateReferenceIdeal := hGateReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Gate_GateIdeal
    ∧ algebraic_GateIdeal_GateReferenceIdeal (hGateIdeal := hGateIdeal) (hGateReferenceIdeal := hGateReferenceIdeal)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
-- ==== Pre_finite.lean ====
abbrev S4x4096x4x2x64 : Shape := ⟨5, ![4, 4096, 4, 2, 64]⟩
abbrev S4x4096x4x128 : Shape := ⟨4, ![4, 4096, 4, 128]⟩
abbrev S64 : Shape := ⟨1, ![64]⟩
abbrev S128 : Shape := ⟨1, ![128]⟩
abbrev S_ : Shape := ⟨0, ![]⟩

class Facts : Prop where
  bcast_S_S4x4096x4x2x64 : S_.BroadcastsInDim S4x4096x4x2x64 (![] : Fin 0 → Fin S4x4096x4x2x64.rank)
  bcast_S_S4x4096x4x128 : S_.BroadcastsInDim S4x4096x4x128 (![] : Fin 0 → Fin S4x4096x4x128.rank)
  bcast_S_S64 : S_.BroadcastsInDim S64 (![] : Fin 0 → Fin S64.rank)

variable [Facts]

def fn_part1 {F : FTy → Type} [FloatOps F] (main_arg6 : FVec F S64 .f32) (main_v2 : IVec S4x4096x4x2x64 1) (main_v5 : IVec S4x4096x4x2x64 1) (main_v8 : IVec S4x4096x4x128 1) (main_v11 : IVec S64 1) (main_v14 : IVec S64 1) (main_v17 : IVec S64 1) : IVec S4x4096x4x2x64 1 × IVec S4x4096x4x2x64 1 × IVec S4x4096x4x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S4x4096x4x2x64 .f32) (main_arg1 : FVec F S4x4096x4x2x64 .f32) (main_arg2 : FVec F S4x4096x4x128 .f32) (main_arg3 : FVec F S64 .f32) (main_arg4 : FVec F S64 .f32) (main_arg5 : FVec F S64 .f32) (main_arg6 : FVec F S64 .f32) (main_arg7 : FVec F S128 .f32) : IVec S4x4096x4x2x64 1 × IVec S4x4096x4x2x64 1 × IVec S4x4096x4x128 1 × IVec S64 1 × IVec S64 1 × IVec S64 1 × IVec S64 1 :=
  let main_v0 : FVec F S4x4096x4x2x64 .f32 := Host.absf main_arg0
  let main_cst : FVec F S_ .f32 := constant S_ .f32 0x7F800000#32
  let main_v1 : FVec F S4x4096x4x2x64 .f32 := broadcastInDim S4x4096x4x2x64 ![] bcast_S_S4x4096x4x2x64 main_cst
  let main_v2 : IVec S4x4096x4x2x64 1 := cmpf .olt main_v0 main_v1
  let main_v3 : FVec F S4x4096x4x2x64 .f32 := Host.absf main_arg1
  let main_cst_0 : FVec F S_ .f32 := constant S_ .f32 0x7F800000#32
  let main_v4 : FVec F S4x4096x4x2x64 .f32 := broadcastInDim S4x4096x4x2x64 ![] bcast_S_S4x4096x4x2x64 main_cst_0
  let main_v5 : IVec S4x4096x4x2x64 1 := cmpf .olt main_v3 main_v4
  let main_v6 : FVec F S4x4096x4x128 .f32 := Host.absf main_arg2
  let main_cst_1 : FVec F S_ .f32 := constant S_ .f32 0x7F800000#32
  let main_v7 : FVec F S4x4096x4x128 .f32 := broadcastInDim S4x4096x4x128 ![] bcast_S_S4x4096x4x128 main_cst_1
  let main_v8 : IVec S4x4096x4x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Kernel.lean ====
abbrev S4x4096x4x2x64 : Shape := ⟨5, ![4, 4096, 4, 2, 64]⟩
abbrev S4x4096x4x128 : Shape := ⟨4, ![4, 4096, 4, 128]⟩
abbrev S64 : Shape := ⟨1, ![64]⟩
abbrev S128 : Shape := ⟨1, ![128]⟩
abbrev S16384x512 : Shape := ⟨2, ![16384, 512]⟩
abbrev S_ : Shape := ⟨0, ![]⟩
abbrev S1x64 : Shape := ⟨2, ![1, 64]⟩
abbrev S1x128 : Shape := ⟨2, ![1, 128]⟩
abbrev S512x256 : Shape := ⟨2, ![512, 256]⟩
abbrev S4096x256 : Shape := ⟨2, ![4096, 256]⟩
abbrev S2x8x1024x512 : Shape := ⟨4, ![2, 8, 1024, 512]⟩
abbrev S2x1024x128 : Shape := ⟨3, ![2, 1024, 128]⟩
abbrev S512x128 : Shape := ⟨2, ![512, 128]⟩
abbrev S1024x128 : Shape := ⟨2, ![1024, 128]⟩
abbrev S1024x512 : Shape := ⟨2, ![1024, 512]⟩
abbrev S1x1x1024x512 : Shape := ⟨4, ![1, 1, 1024, 512]⟩
abbrev S1x1024x128 : Shape := ⟨3, ![1, 1024, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 23
  | .vmem => 17
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16384x512, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S16384x512, .bf16⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x128, .f32⟩
  | .hbm, ⟨22, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S512x256, .bf16⟩
  | .local _ .vmem, ⟨12, _⟩ => ⟨S512x256, .bf16⟩
  | .local _ .vmem, ⟨13, _⟩ => ⟨S2x8x1024x512, .f32⟩
  | .local _ .vmem, ⟨14, _⟩ => ⟨S2x1024x128, .f32⟩
  | .local _ .vmem, ⟨15, _⟩ => ⟨S2x1024x128, .f32⟩
  | .local _ .vmem, ⟨16, _⟩ => ⟨S2x1024x128, .f32⟩
  | _, _ => ⟨S4x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_17 : BitVec 32 := 1#32
  ⟨c0_i32_15, v47, c1_i32_17⟩
def k0_mult1 (i : grid0.Coords) (k0_t1 : Fin (k0_t1_loop i).trips) : BitVec 32 :=
  let c2_i32_140 : BitVec 32 := 2#32
  let c0_i32_15 : BitVec 32 := 0#32
  let c1_i32_17 : BitVec 32 := 1#32
  let arg16 : BitVec 32 := Scf.iv c0_i32_15 c1_i32_17 k0_t1
  let v272 : BitVec 32 := Scalar.muli c2_i32_140 arg16
  let c512_i32_141 : BitVec 32 := 512#32
  let v273 : BitVec 32 := Scalar.muli v272 c512_i32_141
  v273
def k0_off1 (i : grid0.Coords) (k0_t1 : Fin (k0_t1_loop i).trips) : Fin 2 → Nat :=
  let c2_i32_140 : BitVec 32 := 2#32
  let c0_i32_15 : BitVec 32 := 0#32
  let c1_i32_17 : BitVec 32 := 1#32
  let arg16 : BitVec 32 := Scf.iv c0_i32_15 c1_i32_17 k0_t1
  let v272 : BitVec 32 := Scalar.muli c2_i32_140 arg16
  let c512_i32_141 : BitVec 32 := 512#32
  let v273 : BitVec 32 := Scalar.muli v272 c512_i32_141
  let v274 : BitVec 32 := v273
  let v275 : Index := Scalar.indexCast v274
  let c0_142 : Index := 0#32
  ![v275.toNat, 0]
def k0_off2 (i : grid0.Coords) (k0_t1 : Fin (k0_t1_loop i).trips) : Fin 4 → Nat :=
  let c0_145 : Index := 0#32
  let c2_i32_140 : BitVec 32 := 2#32
  let c0_i32_15 : BitVec 32 := 0#32
  let c1_i32_17 : BitVec 32 := 1#32
  let arg16 : BitVec 32 := Scf.iv c0_i32_15 c1_i32_17 k0_t1
  let v272 : BitVec 32 := Scalar.muli c2_i32_140 arg16
  let v281 : Index := Scalar.indexCast v272
  let c0_146 : Index := 0#32
  let c0_147 : Index := 0#32
  ![0, v281.toNat, 0, 0]
def k0_off3 (i : grid0.Coords) (k0_t1 : Fin (k0_t1_loop i).trips) : Fin 2 → Nat :=
  let c2_i32_140 : BitVec 32 := 2#32
  let c0_i32_15 : BitVec 32 := 0#32
  let c1_i32_17 : BitVec 32 := 1#32
  let arg16 : BitVec 32 := Scf.iv c0_i32_15 c1_i32_17 k0_t1
  let v272 : BitVec 32 := Scalar.muli c2_i32_140 arg16
  let c512_i32_141 : BitVec 32 := 512#32
  let v273 : BitVec 32 := Scalar.muli v272 c512_i32_141
  let v274 : BitVec 32 := v273
  let v298 : Index := Scalar.indexCast v274
  let c128_154 : Index := 128#32
  ![v298.toNat, 128]
def k0_off4 (i : grid0.Coords) (k0_t1 : Fin (k0_t1_loop i).trips) : Fin 4 → Nat :=
  let c1_157 : Index := 1#32
  let c2_i32_140 : BitVec 32 := 2#32
  let c0_i32_15 : BitVec 32 := 0#32
  let c1_i32_17 : BitVec 32 := 1#32
  let arg16 : BitVec 32 := Scf.iv c0_i32_15 c1_i32_17 k0_t1
  let v272 : BitVec 32 := Scalar.muli c2_i32_140 arg16
  let v304 : Index := Scalar.indexCast v272
  let c0_158 : Index := 0#32
  let c0_159 : Index := 0#32
  ![1, v304.toNat, 0, 0]
def k0_mult2 (i : grid0.Coords) (k0_t1 : Fin (k0_t1_loop i).trips) : BitVec 32 :=
  let c2_i32_166 : BitVec 32 := 2#32
  let c0_i32_15 : BitVec 32 := 0#32
  let c1_i32_17 : BitVec 32 := 1#32
  let arg16 : BitVec 32 := Scf.iv c0_i32_15 c1_i32_17 k0_t1
  let v321 : BitVec 32 := Scalar.muli c2_i32_166 arg16
  let c1_i32_167 : BitVec 32 := 1#32
  let v322 : BitVec 32 := Scalar.addi v321 c1_i32_167
  let c512_i32_168 : BitVec 32 := 512#32
  let v323 : BitVec 32 := Scalar.muli v322 c512_i32_168
  v323
def k0_off5 (i : grid0.Coords) (k0_t1 : Fin (k0_t1_loop i).trips) : Fin 2 → Nat :=
  let c2_i32_166 : BitVec 32 := 2#32
  let c0_i32_15 : BitVec 32 := 0#32
  let c1_i32_17 : BitVec 32 := 1#32
  let arg16 : BitVec 32 := Scf.iv c0_i32_15 c1_i32_17 k0_t1
  let v321 : BitVec 32 := Scalar.muli c2_i32_166 arg16
  let c1_i32_167 : BitVec 32 := 1#32
  let v322 : BitVec 32 := Scalar.addi v321 c1_i32_167
  let c512_i32_168 : BitVec 32 := 512#32
  let v323 : BitVec 32 := Scalar.muli v322 c512_i32_168
  let v324 : BitVec 32 := v323
  let v325 : Index := Scalar.indexCast v324
  let c0_169 : Index := 0#32
  ![v325.toNat, 0]
def k0_off6 (i : grid0.Coords) (k0_t1 : Fin (k0_t1_loop i).trips) : Fin 4 → Nat :=
  let c0_172 : Index := 0#32
  let c2_i32_166 : BitVec 32 := 2#32
  let c0_i32_15 : BitVec 32 := 0#32
  let c1_i32_17 : BitVec 32 := 1#32
  let arg16 : BitVec 32 := Scf.iv c0_i32_15 c1_i32_17 k0_t1
  let v321 : BitVec 32 := Scalar.muli c2_i32_166 arg16
  let c1_i32_167 : BitVec 32 := 1#32
  let v322 : BitVec 32 := Scalar.addi v321 c1_i32_167
  let v331 : Index := Scalar.indexCast v322
  let c0_173 : Index := 0#32
  let c0_174 : Index := 0#32
  ![0, v331.toNat, 0, 0]
def k0_off7 (i : grid0.Coords) (k0_t1 : Fin (k0_t1_loop i).trips) : Fin 2 → Nat :=
  let c2_i32_166 : BitVec 32 := 2#32
  let c0_i32_15 : BitVec 32 := 0#32
  let c1_i32_17 : BitVec 32 := 1#32
  let arg16 : BitVec 32 := Scf.iv c0_i32_15 c1_i32_17 k0_t1
  let v321 : BitVec 32 := Scalar.muli c2_i32_166 arg16
  let c1_i32_167 : BitVec 32 := 1#32
  let v322 : BitVec 32 := Scalar.addi v321 c1_i32_167
  let c512_i32_168 : BitVec 32 := 512#32
  let v323 : BitVec 32 := Scalar.muli v322 c512_i32_168
  let v324 : BitVec 32 := v323
  let v348 : Index := Scalar.indexCast v324
  let c128_181 : Index := 128#32
  ![v348.toNat, 128]
def k0_off8 (i : grid0.Coords) (k0_t1 : Fin (k0_t1_loop i).trips) : Fin 4 → Nat :=
  let c1_184 : Index := 1#32
  let c2_i32_166 : BitVec 32 := 2#32
  let c0_i32_15 : BitVec 32 := 0#32
  let c1_i32_17 : BitVec 32 := 1#32
  let arg16 : BitVec 32 := Scf.iv c0_i32_15 c1_i32_17 k0_t1
  let v321 : BitVec 32 := Scalar.muli c2_i32_166 arg16
  let c1_i32_167 : BitVec 32 := 1#32
  let v322 : BitVec 32 := Scalar.addi v321 c1_i32_167
  let v354 : Index := Scalar.indexCast v322
  let c0_185 : Index := 0#32
  let c0_186 : Index := 0#32
  ![1, v354.toNat, 0, 0]
@[reducible] def k0_t2_loop (i : grid0.Coords) : Scf.Loop 32 :=
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let v44 : BitVec 32 := Scalar.addi c0_i32_15 v43
  let c1_i32_18 : BitVec 32 := 1#32
  ⟨v47, v44, c1_i32_18⟩
def k0_mult3 (i : grid0.Coords) (k0_t2 : Fin (k0_t2_loop i).trips) : BitVec 32 :=
  let c2_i32_140 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v272 : BitVec 32 := Scalar.muli c2_i32_140 arg16
  let c512_i32_141 : BitVec 32 := 512#32
  let v273 : BitVec 32 := Scalar.muli v272 c512_i32_141
  v273
def k0_off9 (i : grid0.Coords) (k0_t2 : Fin (k0_t2_loop i).trips) : Fin 2 → Nat :=
  let c2_i32_140 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v272 : BitVec 32 := Scalar.muli c2_i32_140 arg16
  let c512_i32_141 : BitVec 32 := 512#32
  let v273 : BitVec 32 := Scalar.muli v272 c512_i32_141
  let v274 : BitVec 32 := v273
  let v275 : Index := Scalar.indexCast v274
  let c0_142 : Index := 0#32
  ![v275.toNat, 0]
def k0_off10 (i : grid0.Coords) (k0_t2 : Fin (k0_t2_loop i).trips) : Fin 4 → Nat :=
  let c0_145 : Index := 0#32
  let c2_i32_140 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v272 : BitVec 32 := Scalar.muli c2_i32_140 arg16
  let v281 : Index := Scalar.indexCast v272
  let c0_146 : Index := 0#32
  let c0_147 : Index := 0#32
  ![0, v281.toNat, 0, 0]
def k0_off11 (i : grid0.Coords) (k0_t2 : Fin (k0_t2_loop i).trips) : Fin 2 → Nat :=
  let c2_i32_140 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v272 : BitVec 32 := Scalar.muli c2_i32_140 arg16
  let c512_i32_141 : BitVec 32 := 512#32
  let v273 : BitVec 32 := Scalar.muli v272 c512_i32_141
  let v274 : BitVec 32 := v273
  let v298 : Index := Scalar.indexCast v274
  let c128_154 : Index := 128#32
  ![v298.toNat, 128]
def k0_off12 (i : grid0.Coords) (k0_t2 : Fin (k0_t2_loop i).trips) : Fin 4 → Nat :=
  let c1_157 : Index := 1#32
  let c2_i32_140 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v272 : BitVec 32 := Scalar.muli c2_i32_140 arg16
  let v304 : Index := Scalar.indexCast v272
  let c0_158 : Index := 0#32
  let c0_159 : Index := 0#32
  ![1, v304.toNat, 0, 0]
def k0_mult4 (i : grid0.Coords) (k0_t2 : Fin (k0_t2_loop i).trips) : BitVec 32 :=
  let c2_i32_166 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v321 : BitVec 32 := Scalar.muli c2_i32_166 arg16
  let c1_i32_167 : BitVec 32 := 1#32
  let v322 : BitVec 32 := Scalar.addi v321 c1_i32_167
  let c512_i32_168 : BitVec 32 := 512#32
  let v323 : BitVec 32 := Scalar.muli v322 c512_i32_168
  v323
def k0_off13 (i : grid0.Coords) (k0_t2 : Fin (k0_t2_loop i).trips) : Fin 2 → Nat :=
  let c2_i32_166 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v321 : BitVec 32 := Scalar.muli c2_i32_166 arg16
  let c1_i32_167 : BitVec 32 := 1#32
  let v322 : BitVec 32 := Scalar.addi v321 c1_i32_167
  let c512_i32_168 : BitVec 32 := 512#32
  let v323 : BitVec 32 := Scalar.muli v322 c512_i32_168
  let v324 : BitVec 32 := v323
  let v325 : Index := Scalar.indexCast v324
  let c0_169 : Index := 0#32
  ![v325.toNat, 0]
def k0_off14 (i : grid0.Coords) (k0_t2 : Fin (k0_t2_loop i).trips) : Fin 4 → Nat :=
  let c0_172 : Index := 0#32
  let c2_i32_166 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v321 : BitVec 32 := Scalar.muli c2_i32_166 arg16
  let c1_i32_167 : BitVec 32 := 1#32
  let v322 : BitVec 32 := Scalar.addi v321 c1_i32_167
  let v331 : Index := Scalar.indexCast v322
  let c0_173 : Index := 0#32
  let c0_174 : Index := 0#32
  ![0, v331.toNat, 0, 0]
def k0_off15 (i : grid0.Coords) (k0_t2 : Fin (k0_t2_loop i).trips) : Fin 2 → Nat :=
  let c2_i32_166 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v321 : BitVec 32 := Scalar.muli c2_i32_166 arg16
  let c1_i32_167 : BitVec 32 := 1#32
  let v322 : BitVec 32 := Scalar.addi v321 c1_i32_167
  let c512_i32_168 : BitVec 32 := 512#32
  let v323 : BitVec 32 := Scalar.muli v322 c512_i32_168
  let v324 : BitVec 32 := v323
  let v348 : Index := Scalar.indexCast v324
  let c128_181 : Index := 128#32
  ![v348.toNat, 128]
def k0_off16 (i : grid0.Coords) (k0_t2 : Fin (k0_t2_loop i).trips) : Fin 4 → Nat :=
  let c1_184 : Index := 1#32
  let c2_i32_166 : BitVec 32 := 2#32
  let c0_i32_15 : BitVec 32 := 0#32
  let arg2 : BitVec 32 := BitVec.ofNat 32 (i 2).val
  let c0_i32 : BitVec 32 := 0#32
  let v27 : BitVec 1 := Scalar.cmpi .sgt arg2 c0_i32
  let v28 : BitVec 32 := Scalar.extui v27
  let c0_i32_10 : BitVec 32 := 0#32
  let v29 : BitVec 1 := Scalar.cmpi .slt arg2 c0_i32_10
  let v30 : BitVec 32 := Scalar.extui v29
  let v31 : BitVec 32 := Scalar.subi v28 v30
  let c2_i32 : BitVec 32 := 2#32
  let c0_i32_11 : BitVec 32 := 0#32
  let v32 : BitVec 1 := Scalar.cmpi .sgt c2_i32 c0_i32_11
  let v33 : BitVec 32 := Scalar.extui v32
  let c0_i32_12 : BitVec 32 := 0#32
  let v34 : BitVec 1 := Scalar.cmpi .slt c2_i32 c0_i32_12
  let v35 : BitVec 32 := Scalar.extui v34
  let v36 : BitVec 32 := Scalar.subi v33 v35
  let v37 : BitVec 1 := Scalar.cmpi .ne v31 v36
  let v38 : BitVec 32 := Scalar.remsi arg2 c2_i32
  let c0_i32_13 : BitVec 32 := 0#32
  let v39 : BitVec 1 := Scalar.cmpi .ne v38 c0_i32_13
  let v40 : BitVec 1 := Scalar.andi v37 v39
  let v26 : BitVec 32 := Scalar.divsi arg2 c2_i32
  let c1_i32 : BitVec 32 := 1#32
  let v41 : BitVec 32 := Scalar.subi v26 c1_i32
  let v42 : BitVec 32 := Scalar.select v40 v41 v26
  let v43 : BitVec 32 := Scalar.subi v42 c0_i32_15
  let c1_i32_16 : BitVec 32 := 1#32
  let v45 : BitVec 32 := Scalar.divsi v43 c1_i32_16
  let v46 : BitVec 32 := Scalar.muli v45 c1_i32_16
  let v47 : BitVec 32 := Scalar.addi c0_i32_15 v46
  let c1_i32_18 : BitVec 32 := 1#32
  let arg16 : BitVec 32 := Scf.iv v47 c1_i32_18 k0_t2
  let v321 : BitVec 32 := Scalar.muli c2_i32_166 arg16
  let c1_i32_167 : BitVec 32 := 1#32
  let v322 : BitVec 32 := Scalar.addi v321 c1_i32_167
  let v354 : Index := Scalar.indexCast v322
  let c0_185 : Index := 0#32
  let c0_186 : Index := 0#32
  ![1, v354.toNat, 0, 0]
def k0_cond1 (i : grid0.Coords) : BitVec 1 :=
  let arg2 : BitVec 32 := BitVec.ofNat 32 (i 2).val
  let c2_i32_19 : BitVec 32 := 2#32
  let c0_i32_20 : BitVec 32 := 0#32
  let v48 : BitVec 1 := Scalar.cmpi .eq c2_i32_19 c0_i32_20
  let c1_i32_21 : BitVec 32 := 1#32
  let v49 : BitVec 32 := Scalar.select v48 c1_i32_21 c2_i32_19
  let v50 : BitVec 32 := Scalar.remsi arg2 v49
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let c0_i32_22 : BitVec 32 := 0#32
  let v51 : BitVec 1 := Scalar.cmpi .ne v50 c0_i32_22
  let v55 : BitVec 1 := Scalar.andi v54 v51
  let v56 : BitVec 32 := Scalar.addi v50 v49
  let v57 : BitVec 32 := Scalar.select v55 v56 v50
  let c1_i32_25 : BitVec 32 := 1#32
  let v58 : BitVec 1 := Scalar.cmpi .eq v57 c1_i32_25
  let v59 : BitVec 32 := Scalar.extui v58
  let c0_i32_26 : BitVec 32 := 0#32
  let v60 : BitVec 1 := Scalar.cmpi .ne v59 c0_i32_26
  v60

def k0_mult5 (i : grid0.Coords) : BitVec 32 :=
  let arg2 : BitVec 32 := BitVec.ofNat 32 (i 2).val
  let c1_i32_140 : BitVec 32 := 1#32
  let v272 : BitVec 32 := Scalar.subi arg2 c1_i32_140
  let c512_i32_141 : BitVec 32 := 512#32
  let v273 : BitVec 32 := Scalar.muli v272 c512_i32_141
  v273
def k0_off17 (i : grid0.Coords) : Fin 2 → Nat :=
  let arg2 : BitVec 32 := BitVec.ofNat 32 (i 2).val
  let c1_i32_140 : BitVec 32 := 1#32
  let v272 : BitVec 32 := Scalar.subi arg2 c1_i32_140
  let c512_i32_141 : BitVec 32 := 512#32
  let v273 : BitVec 32 := Scalar.muli v272 c512_i32_141
  let v274 : BitVec 32 := v273
  let v275 : Index := Scalar.indexCast v274
  let c0_142 : Index := 0#32
  ![v275.toNat, 0]
def k0_off18 (i : grid0.Coords) : Fin 4 → Nat :=
  let c0_145 : Index := 0#32
  let arg2 : BitVec 32 := BitVec.ofNat 32 (i 2).val
  let c1_i32_140 : BitVec 32 := 1#32
  let v272 : BitVec 32 := Scalar.subi arg2 c1_i32_140
  let v281 : Index := Scalar.indexCast v272
  let c0_146 : Index := 0#32
  let c0_147 : Index := 0#32
  ![0, v281.toNat, 0, 0]
def k0_off19 (i : grid0.Coords) : Fin 2 → Nat :=
  let arg2 : BitVec 32 := BitVec.ofNat 32 (i 2).val
  let c1_i32_140 : BitVec 32 := 1#32
  let v272 : BitVec 32 := Scalar.subi arg2 c1_i32_140
  let c512_i32_141 : BitVec 32 := 512#32
  let v273 : BitVec 32 := Scalar.muli v272 c512_i32_141
  let v274 : BitVec 32 := v273
  let v298 : Index := Scalar.indexCast v274
  let c128_154 : Index := 128#32
  ![v298.toNat, 128]
def k0_off20 (i : grid0.Coords) : Fin 4 → Nat :=
  let c1_157 : Index := 1#32
  let arg2 : BitVec 32 := BitVec.ofNat 32 (i 2).val
  let c1_i32_140 : BitVec 32 := 1#32
  let v272 : BitVec 32 := Scalar.subi arg2 c1_i32_140
  let v304 : Index := Scalar.indexCast v272
  let c0_158 : Index := 0#32
  let c0_159 : Index := 0#32
  ![1, v304.toNat, 0, 0]
def k0_mult6 (i : grid0.Coords) : BitVec 32 :=
  let arg2 : BitVec 32 := BitVec.ofNat 32 (i 2).val
  let c512_i32 : BitVec 32 := 512#32
  let v61 : BitVec 32 := Scalar.muli arg2 c512_i32
  v61
def k0_off21 (i : grid0.Coords) : Fin 2 → Nat :=
  let arg2 : BitVec 32 := BitVec.ofNat 32 (i 2).val
  let c512_i32 : BitVec 32 := 512#32
  let v61 : BitVec 32 := Scalar.muli arg2 c512_i32
  let v62 : BitVec 32 := v61
  let v63 : Index := Scalar.indexCast v62
  let c0_27 : Index := 0#32
  ![v63.toNat, 0]
def k0_off22 (i : grid0.Coords) : Fin 4 → Nat :=
  let c0_33 : Index := 0#32
  let arg2 : BitVec 32 := BitVec.ofNat 32 (i 2).val
  let v79 : Index := Scalar.indexCast arg2
  let c0_34 : Index := 0#32
  let c0_35 : Index := 0#32
  ![0, v79.toNat, 0, 0]
def k0_off23 (i : grid0.Coords) : Fin 2 → Nat :=
  let arg2 : BitVec 32 := BitVec.ofNat 32 (i 2).val
  let c512_i32 : BitVec 32 := 512#32
  let v61 : BitVec 32 := Scalar.muli arg2 c512_i32
  let v62 : BitVec 32 := v61
  let v96 : Index := Scalar.indexCast v62
  let c128_42 : Index := 128#32
  ![v96.toNat, 128]
def k0_off24 (i : grid0.Coords) : Fin 4 → Nat :=
  let c1 : Index := 1#32
  let arg2 : BitVec 32 := BitVec.ofNat 32 (i 2).val
  let v112 : Index := Scalar.indexCast arg2
  let c0_48 : Index := 0#32
  let c0_49 : Index := 0#32
  ![1, v112.toNat, 0, 0]
@[reducible] def k0_t3_loop (i : grid0.Coords) : Scf.Loop 32 :=
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_89 : BitVec 32 := 1#32
  ⟨c0_i32_87, v177, c1_i32_89⟩
def k0_mult7 (i : grid0.Coords) (k0_t3 : Fin (k0_t3_loop i).trips) : BitVec 32 :=
  let c2_i32_140 : BitVec 32 := 2#32
  let c0_i32_87 : BitVec 32 := 0#32
  let c1_i32_89 : BitVec 32 := 1#32
  let arg16 : BitVec 32 := Scf.iv c0_i32_87 c1_i32_89 k0_t3
  let v272 : BitVec 32 := Scalar.muli c2_i32_140 arg16
  let c512_i32_141 : BitVec 32 := 512#32
  let v273 : BitVec 32 := Scalar.muli v272 c512_i32_141
  v273
def k0_off25 (i : grid0.Coords) (k0_t3 : Fin (k0_t3_loop i).trips) : Fin 4 → Nat :=
  let c0_142 : Index := 0#32
  let c2_i32_140 : BitVec 32 := 2#32
  let c0_i32_87 : BitVec 32 := 0#32
  let c1_i32_89 : BitVec 32 := 1#32
  let arg16 : BitVec 32 := Scf.iv c0_i32_87 c1_i32_89 k0_t3
  let v272 : BitVec 32 := Scalar.muli c2_i32_140 arg16
  let v275 : Index := Scalar.indexCast v272
  let c0_143 : Index := 0#32
  let c0_144 : Index := 0#32
  ![0, v275.toNat, 0, 0]
def k0_off26 (i : grid0.Coords) (k0_t3 : Fin (k0_t3_loop i).trips) : Fin 2 → Nat :=
  let c2_i32_140 : BitVec 32 := 2#32
  let c0_i32_87 : BitVec 32 := 0#32
  let c1_i32_89 : BitVec 32 := 1#32
  let arg16 : BitVec 32 := Scf.iv c0_i32_87 c1_i32_89 k0_t3
  let v272 : BitVec 32 := Scalar.muli c2_i32_140 arg16
  let c512_i32_141 : BitVec 32 := 512#32
  let v273 : BitVec 32 := Scalar.muli v272 c512_i32_141
  let v274 : BitVec 32 := v273
  let v305 : Index := Scalar.indexCast v274
  let c0_157 : Index := 0#32
  ![v305.toNat, 0]
def k0_off27 (i : grid0.Coords) (k0_t3 : Fin (k0_t3_loop i).trips) : Fin 4 → Nat :=
  let c1_162 : Index := 1#32
  let c2_i32_140 : BitVec 32 := 2#32
  let c0_i32_87 : BitVec 32 := 0#32
  let c1_i32_89 : BitVec 32 := 1#32
  let arg16 : BitVec 32 := Scf.iv c0_i32_87 c1_i32_89 k0_t3
  let v272 : BitVec 32 := Scalar.muli c2_i32_140 arg16
  let v313 : Index := Scalar.indexCast v272
  let c0_163 : Index := 0#32
  let c0_164 : Index := 0#32
  ![1, v313.toNat, 0, 0]
def k0_off28 (i : grid0.Coords) (k0_t3 : Fin (k0_t3_loop i).trips) : Fin 2 → Nat :=
  let c2_i32_140 : BitVec 32 := 2#32
  let c0_i32_87 : BitVec 32 := 0#32
  let c1_i32_89 : BitVec 32 := 1#32
  let arg16 : BitVec 32 := Scf.iv c0_i32_87 c1_i32_89 k0_t3
  let v272 : BitVec 32 := Scalar.muli c2_i32_140 arg16
  let c512_i32_141 : BitVec 32 := 512#32
  let v273 : BitVec 32 := Scalar.muli v272 c512_i32_141
  let v274 : BitVec 32 := v273
  let v343 : Index := Scalar.indexCast v274
  let c128_177 : Index := 128#32
  ![v343.toNat, 128]
def k0_mult8 (i : grid0.Coords) (k0_t3 : Fin (k0_t3_loop i).trips) : BitVec 32 :=
  let c2_i32_182 : BitVec 32 := 2#32
  let c0_i32_87 : BitVec 32 := 0#32
  let c1_i32_89 : BitVec 32 := 1#32
  let arg16 : BitVec 32 := Scf.iv c0_i32_87 c1_i32_89 k0_t3
  let v351 : BitVec 32 := Scalar.muli c2_i32_182 arg16
  let c1_i32_183 : BitVec 32 := 1#32
  let v352 : BitVec 32 := Scalar.addi v351 c1_i32_183
  let c512_i32_184 : BitVec 32 := 512#32
  let v353 : BitVec 32 := Scalar.muli v352 c512_i32_184
  v353
def k0_off29 (i : grid0.Coords) (k0_t3 : Fin (k0_t3_loop i).trips) : Fin 4 → Nat :=
  let c0_185 : Index := 0#32
  let c2_i32_182 : BitVec 32 := 2#32
  let c0_i32_87 : BitVec 32 := 0#32
  let c1_i32_89 : BitVec 32 := 1#32
  let arg16 : BitVec 32 := Scf.iv c0_i32_87 c1_i32_89 k0_t3
  let v351 : BitVec 32 := Scalar.muli c2_i32_182 arg16
  let c1_i32_183 : BitVec 32 := 1#32
  let v352 : BitVec 32 := Scalar.addi v351 c1_i32_183
  let v355 : Index := Scalar.indexCast v352
  let c0_186 : Index := 0#32
  let c0_187 : Index := 0#32
  ![0, v355.toNat, 0, 0]
def k0_off30 (i : grid0.Coords) (k0_t3 : Fin (k0_t3_loop i).trips) : Fin 2 → Nat :=
  let c2_i32_182 : BitVec 32 := 2#32
  let c0_i32_87 : BitVec 32 := 0#32
  let c1_i32_89 : BitVec 32 := 1#32
  let arg16 : BitVec 32 := Scf.iv c0_i32_87 c1_i32_89 k0_t3
  let v351 : BitVec 32 := Scalar.muli c2_i32_182 arg16
  let c1_i32_183 : BitVec 32 := 1#32
  let v352 : BitVec 32 := Scalar.addi v351 c1_i32_183
  let c512_i32_184 : BitVec 32 := 512#32
  let v353 : BitVec 32 := Scalar.muli v352 c512_i32_184
  let v354 : BitVec 32 := v353
  let v385 : Index := Scalar.indexCast v354
  let c0_200 : Index := 0#32
  ![v385.toNat, 0]
def k0_off31 (i : grid0.Coords) (k0_t3 : Fin (k0_t3_loop i).trips) : Fin 4 → Nat :=
  let c1_205 : Index := 1#32
  let c2_i32_182 : BitVec 32 := 2#32
  let c0_i32_87 : BitVec 32 := 0#32
  let c1_i32_89 : BitVec 32 := 1#32
  let arg16 : BitVec 32 := Scf.iv c0_i32_87 c1_i32_89 k0_t3
  let v351 : BitVec 32 := Scalar.muli c2_i32_182 arg16
  let c1_i32_183 : BitVec 32 := 1#32
  let v352 : BitVec 32 := Scalar.addi v351 c1_i32_183
  let v393 : Index := Scalar.indexCast v352
  let c0_206 : Index := 0#32
  let c0_207 : Index := 0#32
  ![1, v393.toNat, 0, 0]
def k0_off32 (i : grid0.Coords) (k0_t3 : Fin (k0_t3_loop i).trips) : Fin 2 → Nat :=
  let c2_i32_182 : BitVec 32 := 2#32
  let c0_i32_87 : BitVec 32 := 0#32
  let c1_i32_89 : BitVec 32 := 1#32
  let arg16 : BitVec 32 := Scf.iv c0_i32_87 c1_i32_89 k0_t3
  let v351 : BitVec 32 := Scalar.muli c2_i32_182 arg16
  let c1_i32_183 : BitVec 32 := 1#32
  let v352 : BitVec 32 := Scalar.addi v351 c1_i32_183
  let c512_i32_184 : BitVec 32 := 512#32
  let v353 : BitVec 32 := Scalar.muli v352 c512_i32_184
  let v354 : BitVec 32 := v353
  let v423 : Index := Scalar.indexCast v354
  let c128_220 : Index := 128#32
  ![v423.toNat, 128]
@[reducible] def k0_t4_loop (i : grid0.Coords) : Scf.Loop 32 :=
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let v174 : BitVec 32 := Scalar.addi c0_i32_87 v173
  let c1_i32_90 : BitVec 32 := 1#32
  ⟨v177, v174, c1_i32_90⟩
def k0_mult9 (i : grid0.Coords) (k0_t4 : Fin (k0_t4_loop i).trips) : BitVec 32 :=
  let c2_i32_140 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v272 : BitVec 32 := Scalar.muli c2_i32_140 arg16
  let c512_i32_141 : BitVec 32 := 512#32
  let v273 : BitVec 32 := Scalar.muli v272 c512_i32_141
  v273
def k0_off33 (i : grid0.Coords) (k0_t4 : Fin (k0_t4_loop i).trips) : Fin 4 → Nat :=
  let c0_142 : Index := 0#32
  let c2_i32_140 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v272 : BitVec 32 := Scalar.muli c2_i32_140 arg16
  let v275 : Index := Scalar.indexCast v272
  let c0_143 : Index := 0#32
  let c0_144 : Index := 0#32
  ![0, v275.toNat, 0, 0]
def k0_off34 (i : grid0.Coords) (k0_t4 : Fin (k0_t4_loop i).trips) : Fin 2 → Nat :=
  let c2_i32_140 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v272 : BitVec 32 := Scalar.muli c2_i32_140 arg16
  let c512_i32_141 : BitVec 32 := 512#32
  let v273 : BitVec 32 := Scalar.muli v272 c512_i32_141
  let v274 : BitVec 32 := v273
  let v305 : Index := Scalar.indexCast v274
  let c0_157 : Index := 0#32
  ![v305.toNat, 0]
def k0_off35 (i : grid0.Coords) (k0_t4 : Fin (k0_t4_loop i).trips) : Fin 4 → Nat :=
  let c1_162 : Index := 1#32
  let c2_i32_140 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v272 : BitVec 32 := Scalar.muli c2_i32_140 arg16
  let v313 : Index := Scalar.indexCast v272
  let c0_163 : Index := 0#32
  let c0_164 : Index := 0#32
  ![1, v313.toNat, 0, 0]
def k0_off36 (i : grid0.Coords) (k0_t4 : Fin (k0_t4_loop i).trips) : Fin 2 → Nat :=
  let c2_i32_140 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v272 : BitVec 32 := Scalar.muli c2_i32_140 arg16
  let c512_i32_141 : BitVec 32 := 512#32
  let v273 : BitVec 32 := Scalar.muli v272 c512_i32_141
  let v274 : BitVec 32 := v273
  let v343 : Index := Scalar.indexCast v274
  let c128_177 : Index := 128#32
  ![v343.toNat, 128]
def k0_mult10 (i : grid0.Coords) (k0_t4 : Fin (k0_t4_loop i).trips) : BitVec 32 :=
  let c2_i32_182 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v351 : BitVec 32 := Scalar.muli c2_i32_182 arg16
  let c1_i32_183 : BitVec 32 := 1#32
  let v352 : BitVec 32 := Scalar.addi v351 c1_i32_183
  let c512_i32_184 : BitVec 32 := 512#32
  let v353 : BitVec 32 := Scalar.muli v352 c512_i32_184
  v353
def k0_off37 (i : grid0.Coords) (k0_t4 : Fin (k0_t4_loop i).trips) : Fin 4 → Nat :=
  let c0_185 : Index := 0#32
  let c2_i32_182 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v351 : BitVec 32 := Scalar.muli c2_i32_182 arg16
  let c1_i32_183 : BitVec 32 := 1#32
  let v352 : BitVec 32 := Scalar.addi v351 c1_i32_183
  let v355 : Index := Scalar.indexCast v352
  let c0_186 : Index := 0#32
  let c0_187 : Index := 0#32
  ![0, v355.toNat, 0, 0]
def k0_off38 (i : grid0.Coords) (k0_t4 : Fin (k0_t4_loop i).trips) : Fin 2 → Nat :=
  let c2_i32_182 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v351 : BitVec 32 := Scalar.muli c2_i32_182 arg16
  let c1_i32_183 : BitVec 32 := 1#32
  let v352 : BitVec 32 := Scalar.addi v351 c1_i32_183
  let c512_i32_184 : BitVec 32 := 512#32
  let v353 : BitVec 32 := Scalar.muli v352 c512_i32_184
  let v354 : BitVec 32 := v353
  let v385 : Index := Scalar.indexCast v354
  let c0_200 : Index := 0#32
  ![v385.toNat, 0]
def k0_off39 (i : grid0.Coords) (k0_t4 : Fin (k0_t4_loop i).trips) : Fin 4 → Nat :=
  let c1_205 : Index := 1#32
  let c2_i32_182 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v351 : BitVec 32 := Scalar.muli c2_i32_182 arg16
  let c1_i32_183 : BitVec 32 := 1#32
  let v352 : BitVec 32 := Scalar.addi v351 c1_i32_183
  let v393 : Index := Scalar.indexCast v352
  let c0_206 : Index := 0#32
  let c0_207 : Index := 0#32
  ![1, v393.toNat, 0, 0]
def k0_off40 (i : grid0.Coords) (k0_t4 : Fin (k0_t4_loop i).trips) : Fin 2 → Nat :=
  let c2_i32_182 : BitVec 32 := 2#32
  let c0_i32_87 : BitVec 32 := 0#32
  let arg2 : BitVec 32 := BitVec.ofNat 32 (i 2).val
  let c1_i32_78 : BitVec 32 := 1#32
  let v155 : BitVec 32 := Scalar.addi arg2 c1_i32_78
  let c0_i32_80 : BitVec 32 := 0#32
  let v157 : BitVec 1 := Scalar.cmpi .sgt v155 c0_i32_80
  let v158 : BitVec 32 := Scalar.extui v157
  let c0_i32_81 : BitVec 32 := 0#32
  let v159 : BitVec 1 := Scalar.cmpi .slt v155 c0_i32_81
  let v160 : BitVec 32 := Scalar.extui v159
  let v161 : BitVec 32 := Scalar.subi v158 v160
  let c2_i32_79 : BitVec 32 := 2#32
  let c0_i32_82 : BitVec 32 := 0#32
  let v162 : BitVec 1 := Scalar.cmpi .sgt c2_i32_79 c0_i32_82
  let v163 : BitVec 32 := Scalar.extui v162
  let c0_i32_83 : BitVec 32 := 0#32
  let v164 : BitVec 1 := Scalar.cmpi .slt c2_i32_79 c0_i32_83
  let v165 : BitVec 32 := Scalar.extui v164
  let v166 : BitVec 32 := Scalar.subi v163 v165
  let v167 : BitVec 1 := Scalar.cmpi .ne v161 v166
  let v168 : BitVec 32 := Scalar.remsi v155 c2_i32_79
  let c0_i32_84 : BitVec 32 := 0#32
  let v169 : BitVec 1 := Scalar.cmpi .ne v168 c0_i32_84
  let v170 : BitVec 1 := Scalar.andi v167 v169
  let v156 : BitVec 32 := Scalar.divsi v155 c2_i32_79
  let c1_i32_85 : BitVec 32 := 1#32
  let v171 : BitVec 32 := Scalar.subi v156 c1_i32_85
  let v172 : BitVec 32 := Scalar.select v170 v171 v156
  let v173 : BitVec 32 := Scalar.subi v172 c0_i32_87
  let c1_i32_88 : BitVec 32 := 1#32
  let v175 : BitVec 32 := Scalar.divsi v173 c1_i32_88
  let v176 : BitVec 32 := Scalar.muli v175 c1_i32_88
  let v177 : BitVec 32 := Scalar.addi c0_i32_87 v176
  let c1_i32_90 : BitVec 32 := 1#32
  let arg16 : BitVec 32 := Scf.iv v177 c1_i32_90 k0_t4
  let v351 : BitVec 32 := Scalar.muli c2_i32_182 arg16
  let c1_i32_183 : BitVec 32 := 1#32
  let v352 : BitVec 32 := Scalar.addi v351 c1_i32_183
  let c512_i32_184 : BitVec 32 := 512#32
  let v353 : BitVec 32 := Scalar.muli v352 c512_i32_184
  let v354 : BitVec 32 := v353
  let v423 : Index := Scalar.indexCast v354
  let c128_220 : Index := 128#32
  ![v423.toNat, 128]
def k0_cond2 (i : grid0.Coords) : BitVec 1 :=
  let arg2 : BitVec 32 := BitVec.ofNat 32 (i 2).val
  let c1_i32_78 : BitVec 32 := 1#32
  let v155 : BitVec 32 := Scalar.addi arg2 c1_i32_78
  let c2_i32_91 : BitVec 32 := 2#32
  let c0_i32_92 : BitVec 32 := 0#32
  let v178 : BitVec 1 := Scalar.cmpi .eq c2_i32_91 c0_i32_92
  let c1_i32_93 : BitVec 32 := 1#32
  let v179 : BitVec 32 := Scalar.select v178 c1_i32_93 c2_i32_91
  let v180 : BitVec 32 := Scalar.remsi v155 v179
  let c0_i32_95 : BitVec 32 := 0#32
  let v182 : BitVec 1 := Scalar.cmpi .slt v180 c0_i32_95
  let c0_i32_96 : BitVec 32 := 0#32
  let v183 : BitVec 1 := Scalar.cmpi .slt v179 c0_i32_96
  let v184 : BitVec 1 := Scalar.xori v182 v183
  let c0_i32_94 : BitVec 32 := 0#32
  let v181 : BitVec 1 := Scalar.cmpi .ne v180 c0_i32_94
  let v185 : BitVec 1 := Scalar.andi v184 v181
  let v186 : BitVec 32 := Scalar.addi v180 v179
  let v187 : BitVec 32 := Scalar.select v185 v186 v180
  let c1_i32_97 : BitVec 32 := 1#32
  let v188 : BitVec 1 := Scalar.cmpi .eq v187 c1_i32_97
  let v189 : BitVec 32 := Scalar.extui v188
  let c0_i32_98 : BitVec 32 := 0#32
  let v190 : BitVec 1 := Scalar.cmpi .ne v189 c0_i32_98
  v190

def k0_mult11 (i : grid0.Coords) : BitVec 32 :=
  let arg2 : BitVec 32 := BitVec.ofNat 32 (i 2).val
  let c1_i32_78 : BitVec 32 := 1#32
  let v155 : BitVec 32 := Scalar.addi arg2 c1_i32_78
  let c1_i32_140 : BitVec 32 := 1#32
  let v272 : BitVec 32 := Scalar.subi v155 c1_i32_140
  let c512_i32_141 : BitVec 32 := 512#32
  let v273 : BitVec 32 := Scalar.muli v272 c512_i32_141
  v273
def k0_off41 (i : grid0.Coords) : Fin 4 → Nat :=
  let c0_142 : Index := 0#32
  let arg2 : BitVec 32 := BitVec.ofNat 32 (i 2).val
  let c1_i32_78 : BitVec 32 := 1#32
  let v155 : BitVec 32 := Scalar.addi arg2 c1_i32_78
  let c1_i32_140 : BitVec 32 := 1#32
  let v272 : BitVec 32 := Scalar.subi v155 c1_i32_140
  let v275 : Index := Scalar.indexCast v272
  let c0_143 : Index := 0#32
  let c0_144 : Index := 0#32
  ![0, v275.toNat, 0, 0]
def k0_off42 (i : grid0.Coords) : Fin 2 → Nat :=
  let arg2 : BitVec 32 := BitVec.ofNat 32 (i 2).val
  let c1_i32_78 : BitVec 32 := 1#32
  let v155 : BitVec 32 := Scalar.addi arg2 c1_i32_78
  let c1_i32_140 : BitVec 32 := 1#32
  let v272 : BitVec 32 := Scalar.subi v155 c1_i32_140
  let c512_i32_141 : BitVec 32 := 512#32
  let v273 : BitVec 32 := Scalar.muli v272 c512_i32_141
  let v274 : BitVec 32 := v273
  let v305 : Index := Scalar.indexCast v274
  let c0_157 : Index := 0#32
  ![v305.toNat, 0]
def k0_off43 (i : grid0.Coords) : Fin 4 → Nat :=
  let c1_162 : Index := 1#32
  let arg2 : BitVec 32 := BitVec.ofNat 32 (i 2).val
  let c1_i32_78 : BitVec 32 := 1#32
  let v155 : BitVec 32 := Scalar.addi arg2 c1_i32_78
  let c1_i32_140 : BitVec 32 := 1#32
  let v272 : BitVec 32 := Scalar.subi v155 c1_i32_140
  let v313 : Index := Scalar.indexCast v272
  let c0_163 : Index := 0#32
  let c0_164 : Index := 0#32
  ![1, v313.toNat, 0, 0]
def k0_off44 (i : grid0.Coords) : Fin 2 → Nat :=
  let arg2 : BitVec 32 := BitVec.ofNat 32 (i 2).val
  let c1_i32_78 : BitVec 32 := 1#32
  let v155 : BitVec 32 := Scalar.addi arg2 c1_i32_78
  let c1_i32_140 : BitVec 32 := 1#32
  let v272 : BitVec 32 := Scalar.subi v155 c1_i32_140
  let c512_i32_141 : BitVec 32 := 512#32
  let v273 : BitVec 32 := Scalar.muli v272 c512_i32_141
  let v274 : BitVec 32 := v273
  let v343 : Index := Scalar.indexCast v274
  let c128_177 : Index := 128#32
  ![v343.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x4096x4x2x64 : Shape := ⟨5, ![4, 4096, 4, 2, 64]⟩
abbrev S4x4096x4x128 : Shape := ⟨4, ![4, 4096, 4, 128]⟩
abbrev S64 : Shape := ⟨1, ![64]⟩
abbrev S128 : Shape := ⟨1, ![128]⟩
abbrev S_ : Shape := ⟨0, ![]⟩
abbrev S4x4x2x4096x4096 : Shape := ⟨5, ![4, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x1x4096x4096 : Shape := ⟨5, ![1, 1, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S16384x512 : Shape := ⟨2, ![16384, 512]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x4x2x4096x4096, .f32⟩
  | .hbm, ⟨20, _⟩ => ⟨S_, .f32⟩
  | .hbm, ⟨21, _⟩ => ⟨S4x4x2x4096x4096, .f32⟩
  | .hbm, ⟨22, _⟩ => ⟨S4x4x2x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S1x1x1x4096x4096, .i1⟩
  | .hbm, ⟨30, _⟩ => ⟨S_, .f32⟩
  | .hbm, ⟨31, _⟩ => ⟨S_, .f32⟩
  | .hbm, ⟨32, _⟩ => ⟨S4x4x2x4096x4096, .i1⟩
  | .hbm, ⟨33, _⟩ => ⟨S4x4x2x4096x4096, .f32⟩
  | .hbm, ⟨34, _⟩ => ⟨S4x4x2x4096x4096, .f32⟩
  | .hbm, ⟨35, _⟩ => ⟨S_, .f32⟩
  | .hbm, ⟨36, _⟩ => ⟨S4x4x2x4096, .f32⟩
  | .hbm, ⟨37, _⟩ => ⟨S_, .f32⟩
  | .hbm, ⟨38, _⟩ => ⟨S4x4x2x4096, .f32⟩
  | .hbm, ⟨39, _⟩ => ⟨S4x4x2x4096, .f32⟩
  | .hbm, ⟨40, _⟩ => ⟨S4x4x2x4096x1, .f32⟩
  | .hbm, ⟨41, _⟩ => ⟨S4x4x2x4096x4096, .f32⟩
  | .hbm, ⟨42, _⟩ => ⟨S4x4x2x4096x4096, .f32⟩
  | .hbm, ⟨43, _⟩ => ⟨S4x4x2x4096x4096, .f32⟩
  | .hbm, ⟨44, _⟩ => ⟨S_, .f32⟩
  | .hbm, ⟨45, _⟩ => ⟨S4x4x2x4096, .f32⟩
  | .hbm, ⟨46, _⟩ => ⟨S4x4x2x4096x1, .f32⟩
  | .hbm, ⟨47, _⟩ => ⟨S4x4x2x4096x4096, .f32⟩
  | .hbm, ⟨48, _⟩ => ⟨S4x4x2x4096x4096, .f32⟩
  | .hbm, ⟨49, _⟩ => ⟨S4x4x1x4096x4096, .f32⟩
  | .hbm, ⟨50, _⟩ => ⟨S4x4x4096x4096, .f32⟩
  | .hbm, ⟨51, _⟩ => ⟨S4x4x1x4096x4096, .f32⟩
  | .hbm, ⟨52, _⟩ => ⟨S4x4x4096x4096, .f32⟩
  | .hbm, ⟨53, _⟩ => ⟨S4x4x4096x4096, .f32⟩
  | .hbm, ⟨54, _⟩ => ⟨S4x4x4096x4096, .f32⟩
  | .hbm, ⟨55, _⟩ => ⟨S4x4x4096x4096, .f32⟩
  | .hbm, ⟨56, _⟩ => ⟨S4x4x128x4096, .f32⟩
  | .hbm, ⟨57, _⟩ => ⟨S4x4096x4x128, .f32⟩
  | .hbm, ⟨58, _⟩ => ⟨S4x4096x4x128, .f32⟩
  | .hbm, ⟨59, _⟩ => ⟨S_, .f32⟩
  | .hbm, ⟨60, _⟩ => ⟨S4x4096x4, .f32⟩
  | .hbm, ⟨61, _⟩ => ⟨S4x4096x4x1, .f32⟩
  | .hbm, ⟨62, _⟩ => ⟨S_, .f32⟩
  | .hbm, ⟨63, _⟩ => ⟨S4x4096x4x1, .f32⟩
  | .hbm, ⟨64, _⟩ => ⟨S4x4096x4x1, .f32⟩
  | .hbm, ⟨65, _⟩ => ⟨S_, .f32⟩
  | .hbm, ⟨66, _⟩ => ⟨S4x4096x4x1, .f32⟩
  | .hbm, ⟨67, _⟩ => ⟨S4x4096x4x1, .f32⟩
  | .hbm, ⟨68, _⟩ => ⟨S4x4096x4x1, .f32⟩
  | .hbm, ⟨69, _⟩ => ⟨S4x4096x4x128, .f32⟩
  | .hbm, ⟨70, _⟩ => ⟨S4x4096x4x128, .f32⟩
  | .hbm, ⟨71, _⟩ => ⟨S1x1x1x128, .f32⟩
  | .hbm, ⟨72, _⟩ => ⟨S4x4096x4x128, .f32⟩
  | .hbm, ⟨73, _⟩ => ⟨S4x4096x4x128, .f32⟩
  | .hbm, ⟨74, _⟩ => ⟨S_, .f32⟩
  | .hbm, ⟨75, _⟩ => ⟨S4x4096x4x128, .f32⟩
  | .hbm, ⟨76, _⟩ => ⟨S4x4096x4x128, .f32⟩
  | .hbm, ⟨77, _⟩ => ⟨S16384x512, .f32⟩
  | .hbm, ⟨78, _⟩ => ⟨S16384x512, .bf16⟩
  | _, _ => ⟨S4x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Up.lean ====
abbrev S4x4096x2048 : Shape := ⟨3, ![4, 4096, 2048]⟩
abbrev S4x2048x11264 : Shape := ⟨3, ![4, 2048, 11264]⟩
abbrev S16384x2048 : Shape := ⟨2, ![16384, 2048]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S4x2048x11264, .f32⟩
  | .hbm, ⟨2, _⟩ => ⟨S16384x2048, .f32⟩
  | .hbm, ⟨3, _⟩ => ⟨S16384x2048, .bf16⟩
  | .hbm, ⟨4, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S4x4096x2048 : Shape := ⟨3, ![4, 4096, 2048]⟩
abbrev S4x2048x11264 : Shape := ⟨3, ![4, 2048, 11264]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S4x4096x5632 : Shape := ⟨3, ![4, 4096, 5632]⟩
abbrev S_ : Shape := ⟨0, ![]⟩
abbrev S16384x5632 : Shape := ⟨2, ![16384, 5632]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048x11264, .f32⟩
  | .hbm, ⟨2, _⟩ => ⟨S1x2048x11264, .f32⟩
  | .hbm, ⟨3, _⟩ => ⟨S2048x11264, .f32⟩
  | .hbm, ⟨4, _⟩ => ⟨S4x4096x11264, .f32⟩
  | .hbm, ⟨5, _⟩ => ⟨S4x4096x5632, .f32⟩
  | .hbm, ⟨6, _⟩ => ⟨S4x4096x5632, .f32⟩
  | .hbm, ⟨7, _⟩ => ⟨S4x4096x5632, .f32⟩
  | .hbm, ⟨8, _⟩ => ⟨S4x4096x5632, .f32⟩
  | .hbm, ⟨9, _⟩ => ⟨S_, .f32⟩
  | .hbm, ⟨10, _⟩ => ⟨S4x4096x5632, .f32⟩
  | .hbm, ⟨11, _⟩ => ⟨S4x4096x5632, .f32⟩
  | .hbm, ⟨12, _⟩ => ⟨S_, .f32⟩
  | .hbm, ⟨13, _⟩ => ⟨S4x4096x5632, .f32⟩
  | .hbm, ⟨14, _⟩ => ⟨S4x4096x5632, .f32⟩
  | .hbm, ⟨15, _⟩ => ⟨S4x4096x5632, .f32⟩
  | .hbm, ⟨16, _⟩ => ⟨S4x4096x5632, .f32⟩
  | .hbm, ⟨17, _⟩ => ⟨S_, .f32⟩
  | .hbm, ⟨18, _⟩ => ⟨S4x4096x5632, .f32⟩
  | .hbm, ⟨19, _⟩ => ⟨S4x4096x5632, .f32⟩
  | .hbm, ⟨20, _⟩ => ⟨S16384x5632, .f32⟩
  | .hbm, ⟨21, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Down.lean ====
abbrev S4x4096x5632 : Shape := ⟨3, ![4, 4096, 5632]⟩
abbrev S4x5632x2048 : Shape := ⟨3, ![4, 5632, 2048]⟩
abbrev S4x4096x2048 : Shape := ⟨3, ![4, 4096, 2048]⟩
abbrev S4x2048 : Shape := ⟨2, ![4, 2048]⟩
abbrev S16384x5632 : Shape := ⟨2, ![16384, 5632]⟩
abbrev S16384x2048 : Shape := ⟨2, ![16384, 2048]⟩
abbrev S1x2048 : Shape := ⟨2, ![1, 2048]⟩
abbrev S2048 : Shape := ⟨1, ![2048]⟩
abbrev S512x5632 : Shape := ⟨2, ![512, 5632]⟩
abbrev S1x5632x2048 : Shape := ⟨3, ![1, 5632, 2048]⟩
abbrev S512x2048 : Shape := ⟨2, ![512, 2048]⟩
abbrev S5632x2048 : Shape := ⟨2, ![5632, 2048]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x4096x5632, .f32⟩
  | .hbm, ⟨1, _⟩ => ⟨S4x5632x2048, .f32⟩
  | .hbm, ⟨2, _⟩ => ⟨S4x4096x2048, .f32⟩
  | .hbm, ⟨3, _⟩ => ⟨S4x2048, .f32⟩
  | .hbm, ⟨4, _⟩ => ⟨S16384x5632, .f32⟩
  | .hbm, ⟨5, _⟩ => ⟨S16384x5632, .bf16⟩
  | .hbm, ⟨6, _⟩ => ⟨S4x5632x2048, .bf16⟩
  | .hbm, ⟨7, _⟩ => ⟨S16384x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x5632, .bf16⟩
  | .local _ .vmem, ⟨1, _⟩ => ⟨S512x5632, .bf16⟩
  | .local _ .vmem, ⟨2, _⟩ => ⟨S1x5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S4x4096x5632 : Shape := ⟨3, ![4, 4096, 5632]⟩
abbrev S4x5632x2048 : Shape := ⟨3, ![4, 5632, 2048]⟩
abbrev S4x4096x2048 : Shape := ⟨3, ![4, 4096, 2048]⟩
abbrev S4x2048 : Shape := ⟨2, ![4, 2048]⟩
abbrev S1x5632x2048 : Shape := ⟨3, ![1, 5632, 2048]⟩
abbrev S5632x2048 : Shape := ⟨2, ![5632, 2048]⟩
abbrev S16384x2048 : Shape := ⟨2, ![16384, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S4x5632x2048, .f32⟩
  | .hbm, ⟨2, _⟩ => ⟨S4x4096x2048, .f32⟩
  | .hbm, ⟨3, _⟩ => ⟨S4x2048, .f32⟩
  | .hbm, ⟨4, _⟩ => ⟨S1x5632x2048, .f32⟩
  | .hbm, ⟨5, _⟩ => ⟨S5632x2048, .f32⟩
  | .hbm, ⟨6, _⟩ => ⟨S4x4096x2048, .f32⟩
  | .hbm, ⟨7, _⟩ => ⟨S4x4096x2048, .f32⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .bf16⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Gate.lean ====
abbrev S4x4096x2048 : Shape := ⟨3, ![4, 4096, 2048]⟩
abbrev S4x2048x13312 : Shape := ⟨3, ![4, 2048, 13312]⟩
abbrev S16384x2048 : Shape := ⟨2, ![16384, 2048]⟩
abbrev S16384x8192 : Shape := ⟨2, ![16384, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S4x2048x13312, .f32⟩
  | .hbm, ⟨2, _⟩ => ⟨S16384x2048, .f32⟩
  | .hbm, ⟨3, _⟩ => ⟨S16384x2048, .bf16⟩
  | .hbm, ⟨4, _⟩ => ⟨S16384x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateReferenceIdeal.lean ====
abbrev S4x4096x2048 : Shape := ⟨3, ![4, 4096, 2048]⟩
abbrev S4x2048x13312 : Shape := ⟨3, ![4, 2048, 13312]⟩
abbrev S1x2048x13312 : Shape := ⟨3, ![1, 2048, 13312]⟩
abbrev S2048x13312 : Shape := ⟨2, ![2048, 13312]⟩
abbrev S4x4096x13312 : Shape := ⟨3, ![4, 4096, 13312]⟩
abbrev S4x4096x8192 : Shape := ⟨3, ![4, 4096, 8192]⟩
abbrev S_ : Shape := ⟨0, ![]⟩
abbrev S16384x8192 : Shape := ⟨2, ![16384, 8192]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048x13312, .f32⟩
  | .hbm, ⟨2, _⟩ => ⟨S1x2048x13312, .f32⟩
  | .hbm, ⟨3, _⟩ => ⟨S2048x13312, .f32⟩
  | .hbm, ⟨4, _⟩ => ⟨S4x4096x13312, .f32⟩
  | .hbm, ⟨5, _⟩ => ⟨S4x4096x8192, .f32⟩
  | .hbm, ⟨6, _⟩ => ⟨S4x4096x8192, .f32⟩
  | .hbm, ⟨7, _⟩ => ⟨S4x4096x8192, .f32⟩
  | .hbm, ⟨8, _⟩ => ⟨S_, .f32⟩
  | .hbm, ⟨9, _⟩ => ⟨S4x4096x8192, .f32⟩
  | .hbm, ⟨10, _⟩ => ⟨S4x4096x8192, .f32⟩
  | .hbm, ⟨11, _⟩ => ⟨S_, .f32⟩
  | .hbm, ⟨12, _⟩ => ⟨S4x4096x8192, .f32⟩
  | .hbm, ⟨13, _⟩ => ⟨S4x4096x8192, .f32⟩
  | .hbm, ⟨14, _⟩ => ⟨S16384x8192, .f32⟩
  | .hbm, ⟨15, _⟩ => ⟨S16384x8192, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Merge.lean ====
abbrev S4x4096x512 : Shape := ⟨3, ![4, 4096, 512]⟩
abbrev S4x4096x4x2048 : Shape := ⟨4, ![4, 4096, 4, 2048]⟩
abbrev S4x4x512x2048 : Shape := ⟨4, ![4, 4, 512, 2048]⟩
abbrev S16384x512 : Shape := ⟨2, ![16384, 512]⟩
abbrev S16384x8192 : Shape := ⟨2, ![16384, 8192]⟩
abbrev S16384x2048 : Shape := ⟨2, ![16384, 2048]⟩
abbrev S512x512 : Shape := ⟨2, ![512, 512]⟩
abbrev S512x2048 : Shape := ⟨2, ![512, 2048]⟩
abbrev S1x4x512x2048 : Shape := ⟨4, ![1, 4, 512, 2048]⟩
abbrev S1x1x512x512 : Shape := ⟨4, ![1, 1, 512, 512]⟩

abbrev nBuf : Space → Nat
  | .hbm => 18
  | .vmem => 19
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x4x2048, .f32⟩
  | .hbm, ⟨5, _⟩ => ⟨S4x4x512x2048, .f32⟩
  | .hbm, ⟨6, _⟩ => ⟨S16384x512, .f32⟩
  | .hbm, ⟨7, _⟩ => ⟨S16384x512, .bf16⟩
  | .hbm, ⟨8, _⟩ => ⟨S16384x512, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S16384x8192, .f32⟩
  | .hbm, ⟨15, _⟩ => ⟨S16384x8192, .bf16⟩
  | .hbm, ⟨16, _⟩ => ⟨S4x4x512x2048, .bf16⟩
  | .hbm, ⟨17, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S1x4x512x2048, .bf16⟩
  | .local _ .vmem, ⟨17, _⟩ => ⟨S512x2048, .bf16⟩
  | .local _ .vmem, ⟨18, _⟩ => ⟨S512x2048, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4x512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S4x4096x512 : Shape := ⟨3, ![4, 4096, 512]⟩
abbrev S4x4096x4x2048 : Shape := ⟨4, ![4, 4096, 4, 2048]⟩
abbrev S4x4x512x2048 : Shape := ⟨4, ![4, 4, 512, 2048]⟩
abbrev S4x4096x1x2048 : Shape := ⟨4, ![4, 4096, 1, 2048]⟩
abbrev S4x4096x2048 : Shape := ⟨3, ![4, 4096, 2048]⟩
abbrev S1x1x512x2048 : Shape := ⟨4, ![1, 1, 512, 2048]⟩
abbrev S512x2048 : Shape := ⟨2, ![512, 2048]⟩
abbrev S16384x2048 : Shape := ⟨2, ![16384, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x4x2048, .f32⟩
  | .hbm, ⟨5, _⟩ => ⟨S4x4x512x2048, .f32⟩
  | .hbm, ⟨6, _⟩ => ⟨S4x4096x1x2048, .f32⟩
  | .hbm, ⟨7, _⟩ => ⟨S4x4096x2048, .f32⟩
  | .hbm, ⟨8, _⟩ => ⟨S1x1x512x2048, .f32⟩
  | .hbm, ⟨9, _⟩ => ⟨S512x2048, .f32⟩
  | .hbm, ⟨10, _⟩ => ⟨S4x4096x2048, .f32⟩
  | .hbm, ⟨11, _⟩ => ⟨S4x4096x2048, .f32⟩
  | .hbm, ⟨12, _⟩ => ⟨S4x4096x1x2048, .f32⟩
  | .hbm, ⟨13, _⟩ => ⟨S4x4096x2048, .f32⟩
  | .hbm, ⟨14, _⟩ => ⟨S1x1x512x2048, .f32⟩
  | .hbm, ⟨15, _⟩ => ⟨S512x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x1x2048, .f32⟩
  | .hbm, ⟨20, _⟩ => ⟨S4x4096x2048, .f32⟩
  | .hbm, ⟨21, _⟩ => ⟨S1x1x512x2048, .f32⟩
  | .hbm, ⟨22, _⟩ => ⟨S512x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x1x2048, .f32⟩
  | .hbm, ⟨27, _⟩ => ⟨S4x4096x2048, .f32⟩
  | .hbm, ⟨28, _⟩ => ⟨S1x1x512x2048, .f32⟩
  | .hbm, ⟨29, _⟩ => ⟨S512x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S16384x2048, .f32⟩
  | .hbm, ⟨34, _⟩ => ⟨S16384x2048, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Out.lean ====
abbrev S4x4096x2048 : Shape := ⟨3, ![4, 4096, 2048]⟩
abbrev S4x2048x2048 : Shape := ⟨3, ![4, 2048, 2048]⟩
abbrev S4x2048 : Shape := ⟨2, ![4, 2048]⟩
abbrev S16384x2048 : Shape := ⟨2, ![16384, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x2048x2048, .f32⟩
  | .hbm, ⟨2, _⟩ => ⟨S4x4096x2048, .f32⟩
  | .hbm, ⟨3, _⟩ => ⟨S4x2048, .f32⟩
  | .hbm, ⟨4, _⟩ => ⟨S16384x2048, .f32⟩
  | .hbm, ⟨5, _⟩ => ⟨S16384x2048, .bf16⟩
  | .hbm, ⟨6, _⟩ => ⟨S4x2048x2048, .bf16⟩
  | .hbm, ⟨7, _⟩ => ⟨S16384x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S4x4096x2048 : Shape := ⟨3, ![4, 4096, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S16384x2048 : Shape := ⟨2, ![16384, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048x2048, .f32⟩
  | .hbm, ⟨2, _⟩ => ⟨S4x4096x2048, .f32⟩
  | .hbm, ⟨3, _⟩ => ⟨S4x2048, .f32⟩
  | .hbm, ⟨4, _⟩ => ⟨S1x2048x2048, .f32⟩
  | .hbm, ⟨5, _⟩ => ⟨S2048x2048, .f32⟩
  | .hbm, ⟨6, _⟩ => ⟨S4x4096x2048, .f32⟩
  | .hbm, ⟨7, _⟩ => ⟨S4x4096x2048, .f32⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.AttnIdeal.Places.lean ====
/- Where the attention's stores and loads of its score and key tiles lie, and how many trips its loops make. -/
module

public import proofs.«01_k».proof.Proof.Gen.KernelIdeal
public import proofs.«01_k».proof.Proof.Gen.KernelIdeal.Skeleton
public import Idealize.ShloMosaic.Lib.Exec

@[expose] public section

namespace Cert.Proof.AttnIdeal

open Cert.KernelIdeal Cert.KernelIdeal.Gen
open Idealize.ShloMosaic Idealize.ShloMosaic.Tactic

/-- The score loop makes one trip for every two tiles before the query's own. -/
theorem trips_scores : ∀ i : grid0.Coords, (k0_t1_loop i).trips = (i 2).val / 2 := by decide +kernel

/-- The second pass makes one trip for every two tiles up to and with the query's own. -/
theorem trips_sums : ∀ i : grid0.Coords, (k0_t3_loop i).trips = ((i 2).val + 1) / 2 := by decide +kernel

/-- The tile left over by the score loop is there when the number of tiles before the query's own is odd. -/
theorem odd_scores : ∀ i : grid0.Coords, k0_cond1 i = 1#1 ↔ (i 2).val % 2 = 1 := by decide +kernel

/-- The tile left over by the second pass is there when the number of tiles before the query's own is even. -/
theorem odd_sums : ∀ i : grid0.Coords, k0_cond2 i = 1#1 ↔ (i 2).val % 2 = 0 := by decide +kernel

/-- The first head's even key tile of a trip. -/
theorem off1_eq : ∀ (i : grid0.Coords) (t : Fin (k0_t1_loop i).trips), k0_off1 i t = ![512 * (2 * t.val), 0] := by decide +kernel
/-- The first head's even score tile of a trip. -/
theorem off2_eq : ∀ (i : grid0.Coords) (t : Fin (k0_t1_loop i).trips), k0_off2 i t = ![0, 2 * t.val, 0, 0] := by decide +kernel
/-- The second head's even key tile of a trip. -/
theorem off3_eq : ∀ (i : grid0.Coords) (t : Fin (k0_t1_loop i).trips), k0_off3 i t = ![512 * (2 * t.val), 128] := by decide +kernel
/-- The second head's even score tile of a trip. -/
theorem off4_eq : ∀ (i : grid0.Coords) (t : Fin (k0_t1_loop i).trips), k0_off4 i t = ![1, 2 * t.val, 0, 0] := by decide +kernel
/-- The first head's odd key tile of a trip. -/
theorem off5_eq : ∀ (i : grid0.Coords) (t : Fin (k0_t1_loop i).trips), k0_off5 i t = ![512 * (2 * t.val + 1), 0] := by decide +kernel
/-- The first head's odd score tile of a trip. -/
theorem off6_eq : ∀ (i : grid0.Coords) (t : Fin (k0_t1_loop i).trips), k0_off6 i t = ![0, 2 * t.val + 1, 0, 0] := by decide +kernel
/-- The second head's odd key tile of a trip. -/
theorem off7_eq : ∀ (i : grid0.Coords) (t : Fin (k0_t1_loop i).trips), k0_off7 i t = ![512 * (2 * t.val + 1), 128] := by decide +kernel
/-- The second head's odd score tile of a trip. -/
theorem off8_eq : ∀ (i : grid0.Coords) (t : Fin (k0_t1_loop i).trips), k0_off8 i t = ![1, 2 * t.val + 1, 0, 0] := by decide +kernel
/-- The first head's key tile left over. -/
theorem off17_eq : ∀ i : grid0.Coords, k0_cond1 i = 1#1 → k0_off17 i = ![512 * ((i 2).val - 1), 0] := by decide +kernel
/-- The first head's score tile left over. -/
theorem off18_eq : ∀ i : grid0.Coords, k0_cond1 i = 1#1 → k0_off18 i = ![0, (i 2).val - 1, 0, 0] := by decide +kernel
/-- The second head's key tile left over. -/
theorem off19_eq : ∀ i : grid0.Coords, k0_cond1 i = 1#1 → k0_off19 i = ![512 * ((i 2).val - 1), 128] := by decide +kernel
/-- The second head's score tile left over. -/
theorem off20_eq : ∀ i : grid0.Coords, k0_cond1 i = 1#1 → k0_off20 i = ![1, (i 2).val - 1, 0, 0] := by decide +kernel
/-- The first head's score tile left over lies in the first head's half. -/
theorem off18_form : ∀ i : grid0.Coords, k0_off18 i = ![0, k0_off18 i 1, 0, 0] := by decide +kernel
/-- The second head's score tile left over lies in the second head's half. -/
theorem off20_form : ∀ i : grid0.Coords, k0_off20 i = ![1, k0_off20 i 1, 0, 0] := by decide +kernel

instance (i : grid0.Coords) (t : Fin (k0_t1_loop i).trips) : ClosedOff (k0_off2 i t) := ⟨_, off2_eq i t⟩
instance (i : grid0.Coords) (t : Fin (k0_t1_loop i).trips) : ClosedOff (k0_off4 i t) := ⟨_, off4_eq i t⟩
instance (i : grid0.Coords) (t : Fin (k0_t1_loop i).trips) : ClosedOff (k0_off6 i t) := ⟨_, off6_eq i t⟩
instance (i : grid0.Coords) (t : Fin (k0_t1_loop i).trips) : ClosedOff (k0_off8 i t) := ⟨_, off8_eq i t⟩
instance (i : grid0.Coords) : ClosedOff (k0_off18 i) := ⟨_, off18_form i⟩
instance (i : grid0.Coords) : ClosedOff (k0_off20 i) := ⟨_, off20_form i⟩

end Cert.Proof.AttnIdeal
-- ==== Proof.AttnIdeal.Tiles.lean ====
/- What one grid point of the attention holds in its scratch buffers, as functions of the blocks it reads: the score
   tiles of a head, the running lane maxima, the row maxima, and the sums of the second pass. -/
module

public import proofs.«01_k».proof.Proof.Gen.KernelIdeal
public import proofs.«01_k».proof.Proof.Gen.KernelIdeal.Skeleton
public import Idealize.ShloMosaic.Lib.VecWindow

@[expose] public section

noncomputable section

namespace Cert.Proof.AttnIdeal

open Cert.KernelIdeal Cert.KernelIdeal.Gen
open Idealize.ShloMosaic Idealize.ShloMosaic.Tactic

variable {F : FTy → Type} [FloatOps F] [Named F]

/-- The lanes of head `hd` of a block of queries. -/
def qhead (x : Vec F S512x256 .bf16) (hd : ℕ) : Vec F S512x128 .bf16 := fun y =>
  x fun a => ⟨(![(y 0).val, 128 * (hd % 2) + (y 1).val] : Fin 2 → ℕ) a, by
    have h0 := (y 0).isLt; have h1 := (y 1).isLt
    have : hd % 2 < 2 := Nat.mod_lt _ (by decide)
    match a with
    | ⟨0, _⟩ => exact h0
    | ⟨1, _⟩ => show 128 * (hd % 2) + (y 1).val < 256; have : (y 1).val < 128 := h1; omega⟩

/-- Tile `j` of the keys (or values) of head `hd`. -/
def ktile (x : Vec F S4096x256 .bf16) (hd j : ℕ) : Vec F S512x128 .bf16 := fun y =>
  x fun a => ⟨(![512 * (j % 8) + (y 0).val, 128 * (hd % 2) + (y 1).val] : Fin 2 → ℕ) a, by
    have h0 := (y 0).isLt; have h1 := (y 1).isLt
    have : hd % 2 < 2 := Nat.mod_lt _ (by decide)
    have : j % 8 < 8 := Nat.mod_lt _ (by decide)
    match a with
    | ⟨0, _⟩ => show 512 * (j % 8) + (y 0).val < 4096; have : (y 0).val < 512 := h0; omega
    | ⟨1, _⟩ => show 128 * (hd % 2) + (y 1).val < 256; have : (y 1).val < 128 := h1; omega⟩

/-- The queries of a head, each twice: with the second half of the lanes at zero, and with the first half at zero. -/
def stacked (x : Vec F S512x256 .bf16) (hd : ℕ) : FVec F S1024x128 .bf16 := k0_pay116 (qhead x hd)

/-- A tile's scores below the diagonal. -/
def plain (q : FVec F S1024x128 .bf16) (x : Vec F S4096x256 .bf16) (hd j : ℕ) : FVec F S1024x512 .f32 :=
  k0_pay2 q (ktile x hd j)

/-- A tile's scores on the diagonal: what lies after the query masked. -/
def masked (q : FVec F S1024x128 .bf16) (x : Vec F S4096x256 .bf16) (hd j : ℕ) : FVec F S1024x512 .f32 :=
  k0_pay133 q (ktile x hd j)

/-- The lane maxima before tile `n`. -/
def lanes (q : FVec F S1024x128 .bf16) (x : Vec F S4096x256 .bf16) (hd : ℕ) : ℕ → Vec F S1x1024x128 .f32
  | 0 => fun _ => Named.named κ "mask" 0xF149F2CA#32
  | n + 1 => k0_pay7 (plain q x hd n) (lanes q x hd n)

/-- The row maxima over the tiles up to and with the diagonal's tile `i`, in every lane. -/
def rowmax (q : FVec F S1024x128 .bf16) (x : Vec F S4096x256 .bf16) (hd i : ℕ) : Vec F S1x1024x128 .f32 :=
  k0_pay136 (k0_pay7 (masked q x hd i) (lanes q x hd i))

/-- The scores of tile `j` for the queries of tile `i`. -/
def scores (q : FVec F S1024x128 .bf16) (x : Vec F S4096x256 .bf16) (hd i j : ℕ) : FVec F S1x1x1024x512 .f32 :=
  if j < i then k0_pay3 q (ktile x hd j) else k0_pay134 (masked q x hd j)

/-- The lane sums of the exponentials over the first `n` tiles. -/
def sums (s : ℕ → FVec F S1x1x1024x512 .f32) (m : Vec F S1x1024x128 .f32) : ℕ → Vec F S1x1024x128 .f32
  | 0 => fun _ => Scalar.ofBits .f32 0x00000000#32
  | n + 1 => k0_pay31 (s n) m (sums s m n)

/-- The values weighted by the exponentials, summed over the first `n` tiles. -/
def weighted (s : ℕ → FVec F S1x1x1024x512 .f32) (m : Vec F S1x1024x128 .f32) (v : Vec F S4096x256 .bf16) (hd : ℕ) :
    ℕ → Vec F S1x1024x128 .f32
  | 0 => fun _ => Scalar.ofBits .f32 0x00000000#32
  | n + 1 => k0_pay33 (k0_pay32 (s n) m (weighted s m v hd n) (ktile v hd n))

/-- Two heads' blocks of a statistic, one over the other. -/
def both {α : Type} (a b : S1x1024x128.Idx → α) : S2x1024x128.Idx → α := fun y =>
  if (y 0).val = 0 then a fun ax => ⟨(![0, (y 1).val, (y 2).val] : Fin 3 → ℕ) ax, by
      match ax with
      | ⟨0, _⟩ => exact Nat.one_pos
      | ⟨1, _⟩ => exact (y 1).isLt
      | ⟨2, _⟩ => exact (y 2).isLt⟩
  else b fun ax => ⟨(![0, (y 1).val, (y 2).val] : Fin 3 → ℕ) ax, by
      match ax with
      | ⟨0, _⟩ => exact Nat.one_pos
      | ⟨1, _⟩ => exact (y 1).isLt
      | ⟨2, _⟩ => exact (y 2).isLt⟩

/-- The first head's block of a statistic of both. -/
def first {α : Type} (x : S2x1024x128.Idx → α) : S1x1024x128.Idx → α := fun y =>
  x fun ax => ⟨(![0, (y 1).val, (y 2).val] : Fin 3 → ℕ) ax, by
    match ax with
    | ⟨0, _⟩ => exact Nat.two_pos
    | ⟨1, _⟩ => exact (y 1).isLt
    | ⟨2, _⟩ => exact (y 2).isLt⟩

/-- The second head's block of a statistic of both. -/
def second {α : Type} (x : S2x1024x128.Idx → α) : S1x1024x128.Idx → α := fun y =>
  x fun ax => ⟨(![1, (y 1).val, (y 2).val] : Fin 3 → ℕ) ax, by
    match ax with
    | ⟨0, _⟩ => exact Nat.one_lt_two
    | ⟨1, _⟩ => exact (y 1).isLt
    | ⟨2, _⟩ => exact (y 2).isLt⟩

/-- A statistic is its two heads' blocks. -/
theorem eq_both {α : Type} (x : S2x1024x128.Idx → α) : x = both (first x) (second x) := by
  funext y
  have h0 : (y 0).val < 2 := (y 0).isLt
  unfold both first second
  by_cases e : (y 0).val = 0
  · rw [if_pos e]
    refine congrArg x (funext fun ax => Fin.ext ?_)
    match ax with
    | ⟨0, _⟩ => exact e
    | ⟨1, _⟩ => rfl
    | ⟨2, _⟩ => rfl
  · rw [if_neg e]
    refine congrArg x (funext fun ax => Fin.ext ?_)
    match ax with
    | ⟨0, _⟩ => show (y 0).val = 1; omega
    | ⟨1, _⟩ => rfl
    | ⟨2, _⟩ => rfl

section Both

variable {α : Type} (a b : S1x1024x128.Idx → α)

/-- The first head's block of a statistic. -/
theorem window_both_first (inb : ∀ ax, (![0, 0, 0] : Fin 3 → ℕ) ax + S1x1024x128.size ax ≤ S2x1024x128.size ax) :
    VecWindow.window (s := S2x1024x128) (both a b) ![0, 0, 0] S1x1024x128.size inb = a := by
  funext y
  have h0 : (y 0).val < 1 := (y 0).isLt
  have e : (((Rect.unit (s := S2x1024x128) ![0, 0, 0] S1x1024x128.size inb).emb y) 0).val = 0 := by
    show 0 + 1 * (y 0).val = 0; omega
  show both a b _ = a y
  unfold both
  rw [if_pos e]
  refine congrArg a (funext fun ax => Fin.ext ?_)
  match ax with
  | ⟨0, _⟩ => show 0 = (y 0).val; omega
  | ⟨1, _⟩ => show 0 + 1 * (y 1).val = (y 1).val; omega
  | ⟨2, _⟩ => show 0 + 1 * (y 2).val = (y 2).val; omega

/-- The second head's block of a statistic. -/
theorem window_both_second (inb : ∀ ax, (![1, 0, 0] : Fin 3 → ℕ) ax + S1x1024x128.size ax ≤ S2x1024x128.size ax) :
    VecWindow.window (s := S2x1024x128) (both a b) ![1, 0, 0] S1x1024x128.size inb = b := by
  funext y
  have h0 : (y 0).val < 1 := (y 0).isLt
  have e : ¬ (((Rect.unit (s := S2x1024x128) ![1, 0, 0] S1x1024x128.size inb).emb y) 0).val = 0 := by
    show ¬ 1 + 1 * (y 0).val = 0; omega
  show both a b _ = b y
  unfold both
  rw [if_neg e]
  refine congrArg b (funext fun ax => Fin.ext ?_)
  match ax with
  | ⟨0, _⟩ => show 0 = (y 0).val; omega
  | ⟨1, _⟩ => show 0 + 1 * (y 1).val = (y 1).val; omega
  | ⟨2, _⟩ => show 0 + 1 * (y 2).val = (y 2).val; omega

/-- Putting the first head's block replaces it. -/
theorem put_both_first (w : ((ax : Fin 3) → Fin (S1x1024x128.size ax)) → α) :
    VecWindow.put (s := S2x1024x128) (both a b) ![0, 0, 0] S1x1024x128.size w = both w b := by
  funext y
  have h0 : (y 0).val < 2 := (y 0).isLt
  have h1 : (y 1).val < 1024 := (y 1).isLt
  have h2 : (y 2).val < 128 := (y 2).isLt
  unfold VecWindow.put
  by_cases e : (y 0).val = 0
  · rw [dif_pos (fun ax => by
      match ax with
      | ⟨0, _⟩ => show 0 ≤ (y 0).val ∧ (y 0).val < 0 + 1; omega
      | ⟨1, _⟩ => show 0 ≤ (y 1).val ∧ (y 1).val < 0 + 1024; omega
      | ⟨2, _⟩ => show 0 ≤ (y 2).val ∧ (y 2).val < 0 + 128; omega)]
    unfold both
    rw [if_pos e]
    refine congrArg w (funext fun ax => Fin.ext ?_)
    match ax with
    | ⟨0, _⟩ => show (y 0).val - 0 = 0; omega
    | ⟨1, _⟩ => rfl
    | ⟨2, _⟩ => rfl
  · rw [dif_neg (fun h => by have := (h 0).2; change (y 0).val < 0 + 1 at this; omega)]
    unfold both
    rw [if_neg e, if_neg e]

/-- Putting the second head's block replaces it. -/
theorem put_both_second (w : ((ax : Fin 3) → Fin (S1x1024x128.size ax)) → α) :
    VecWindow.put (s := S2x1024x128) (both a b) ![1, 0, 0] S1x1024x128.size w = both a w := by
  funext y
  have h0 : (y 0).val < 2 := (y 0).isLt
  have h1 : (y 1).val < 1024 := (y 1).isLt
  have h2 : (y 2).val < 128 := (y 2).isLt
  unfold VecWindow.put
  by_cases e : (y 0).val = 0
  · rw [dif_neg (fun h => by have := (h 0).1; change 1 ≤ (y 0).val at this; omega)]
    unfold both
    rw [if_pos e, if_pos e]
  · rw [dif_pos (fun ax => by
      match ax with
      | ⟨0, _⟩ => show 1 ≤ (y 0).val ∧ (y 0).val < 1 + 1; omega
      | ⟨1, _⟩ => show 0 ≤ (y 1).val ∧ (y 1).val < 0 + 1024; omega
      | ⟨2, _⟩ => show 0 ≤ (y 2).val ∧ (y 2).val < 0 + 128; omega)]
    unfold both
    rw [if_neg e]
    refine congrArg w (funext fun ax => Fin.ext ?_)
    match ax with
    | ⟨0, _⟩ => show (y 0).val - 1 = 0; omega
    | ⟨1, _⟩ => rfl
    | ⟨2, _⟩ => rfl

end Both

/-- A window of the queries at head `hd`'s lanes is that head's queries. -/
theorem window_qhead (x : Vec F S512x256 .bf16) (hd : ℕ) (hh : hd < 2) (off : Fin 2 → ℕ) (ho : off = ![0, 128 * hd])
    (inb : ∀ ax, off ax + S512x128.size ax ≤ S512x256.size ax) :
    VecWindow.window (s := S512x256) x off S512x128.size inb = qhead x hd := by
  subst ho
  funext y
  refine congrArg x (funext fun ax => Fin.ext ?_)
  have hm : hd % 2 = hd := Nat.mod_eq_of_lt hh
  match ax with
  | ⟨0, _⟩ => show 0 + 1 * (y 0).val = (y 0).val; omega
  | ⟨1, _⟩ => show 128 * hd + 1 * (y 1).val = 128 * (hd % 2) + (y 1).val; omega

/-- A window of the keys at tile `j` and head `hd`'s lanes is that tile. -/
theorem window_ktile (x : Vec F S4096x256 .bf16) (hd j : ℕ) (hh : hd < 2) (hj : j < 8) (off : Fin 2 → ℕ)
    (ho : off = ![512 * j, 128 * hd]) (inb : ∀ ax, off ax + S512x128.size ax ≤ S4096x256.size ax) :
    VecWindow.window (s := S4096x256) x off S512x128.size inb = ktile x hd j := by
  subst ho
  funext y
  refine congrArg x (funext fun ax => Fin.ext ?_)
  have hm : hd % 2 = hd := Nat.mod_eq_of_lt hh
  have hn : j % 8 = j := Nat.mod_eq_of_lt hj
  match ax with
  | ⟨0, _⟩ => show 512 * j + 1 * (y 0).val = 512 * (j % 8) + (y 0).val; omega
  | ⟨1, _⟩ => show 128 * hd + 1 * (y 1).val = 128 * (hd % 2) + (y 1).val; omega

/-- A load of the queries at head `hd`'s lanes. -/
theorem load_qhead {sp : Space} (v : View sig .tc sp S512x256 .bf16) (X : v.ty.Contents (Elt F)) (hd : ℕ) (hh : hd < 2)
    {off : Fin 2 → ℕ} (ho : off = ![0, 128 * hd]) (inb : ∀ ax, off ax + S512x128.size ax ≤ S512x256.size ax) :
    v.readAt (Elt F) (Rect.unit (s := S512x256) off S512x128.size inb).toLoadRect X = qhead (v.read (Elt F) X) hd := by
  rw [View.readAt_unit v X inb rfl inb]; exact window_qhead _ hd hh off ho inb

/-- A load of the keys or the values at tile `j` and head `hd`'s lanes. -/
theorem load_ktile {sp : Space} (v : View sig .tc sp S4096x256 .bf16) (X : v.ty.Contents (Elt F)) (hd j : ℕ) (hh : hd < 2) (hj : j < 8)
    {off : Fin 2 → ℕ} (ho : off = ![512 * j, 128 * hd]) (inb : ∀ ax, off ax + S512x128.size ax ≤ S4096x256.size ax) :
    v.readAt (Elt F) (Rect.unit (s := S4096x256) off S512x128.size inb).toLoadRect X = ktile (v.read (Elt F) X) hd j := by
  rw [View.readAt_unit v X inb rfl inb]; exact window_ktile _ hd j hh hj off ho inb

/-- The score tile at head `hd` and place `j`. -/
def tileAt {α : Type} (S : S2x8x1024x512.Idx → α) (hd j : ℕ) : S1x1x1024x512.Idx → α := fun y =>
  S fun ax => ⟨(![hd % 2, j % 8, (y 2).val, (y 3).val] : Fin 4 → ℕ) ax, by
    match ax with
    | ⟨0, _⟩ => exact Nat.mod_lt _ (by decide)
    | ⟨1, _⟩ => exact Nat.mod_lt _ (by decide)
    | ⟨2, _⟩ => exact (y 2).isLt
    | ⟨3, _⟩ => exact (y 3).isLt⟩

section TileAt

variable {α : Type} (S : S2x8x1024x512.Idx → α)

/-- A window of the scores at a tile's place is that tile. -/
theorem window_tileAt (hd j : ℕ) (hh : hd < 2) (hj : j < 8) (off : Fin 4 → ℕ) (ho : off = ![hd, j, 0, 0])
    (inb : ∀ ax, off ax + S1x1x1024x512.size ax ≤ S2x8x1024x512.size ax) :
    VecWindow.window (s := S2x8x1024x512) S off S1x1x1024x512.size inb = tileAt S hd j := by
  subst ho
  funext y
  refine congrArg S (funext fun ax => Fin.ext ?_)
  have hm : hd % 2 = hd := Nat.mod_eq_of_lt hh
  have hn : j % 8 = j := Nat.mod_eq_of_lt hj
  have h0 : (y 0).val < 1 := (y 0).isLt
  have h1 : (y 1).val < 1 := (y 1).isLt
  match ax with
  | ⟨0, _⟩ => show hd + 1 * (y 0).val = hd % 2; omega
  | ⟨1, _⟩ => show j + 1 * (y 1).val = j % 8; omega
  | ⟨2, _⟩ => show 0 + 1 * (y 2).val = (y 2).val; omega
  | ⟨3, _⟩ => show 0 + 1 * (y 3).val = (y 3).val; omega

/-- A tile just put is there. -/
theorem tileAt_put_same (hd j : ℕ) (hh : hd < 2) (hj : j < 8) (w : ((ax : Fin 4) → Fin (S1x1x1024x512.size ax)) → α) :
    tileAt (VecWindow.put (s := S2x8x1024x512) S ![hd, j, 0, 0] S1x1x1024x512.size w) hd j = w := by
  have inb : ∀ ax, (![hd, j, 0, 0] : Fin 4 → ℕ) ax + S1x1x1024x512.size ax ≤ S2x8x1024x512.size ax := fun ax => by
    match ax with
    | ⟨0, _⟩ => show hd + 1 ≤ 2; omega
    | ⟨1, _⟩ => show j + 1 ≤ 8; omega
    | ⟨2, _⟩ => exact Nat.le_refl _
    | ⟨3, _⟩ => exact Nat.le_refl _
  rw [← window_tileAt _ hd j hh hj _ rfl inb, VecWindow.window_put_same]

/-- A tile put elsewhere leaves the others. -/
theorem tileAt_put_other (hd j hd' j' : ℕ) (hh : hd' < 2) (hj : j' < 8) (hne : hd ≠ hd' ∨ j ≠ j')
    (w : ((ax : Fin 4) → Fin (S1x1x1024x512.size ax)) → α) :
    tileAt (VecWindow.put (s := S2x8x1024x512) S ![hd, j, 0, 0] S1x1x1024x512.size w) hd' j' = tileAt S hd' j' := by
  have inb : ∀ ax, (![hd', j', 0, 0] : Fin 4 → ℕ) ax + S1x1x1024x512.size ax ≤ S2x8x1024x512.size ax := fun ax => by
    match ax with
    | ⟨0, _⟩ => show hd' + 1 ≤ 2; omega
    | ⟨1, _⟩ => show j' + 1 ≤ 8; omega
    | ⟨2, _⟩ => exact Nat.le_refl _
    | ⟨3, _⟩ => exact Nat.le_refl _
  rw [← window_tileAt _ hd' j' hh hj _ rfl inb, ← window_tileAt _ hd' j' hh hj _ rfl inb]
  rcases hne with h | h
  · exact VecWindow.window_put_of_disjoint _ _ _ _ _ _ _ 0 (by show hd' + 1 ≤ hd ∨ hd + 1 ≤ hd'; omega)
  · exact VecWindow.window_put_of_disjoint _ _ _ _ _ _ _ 1 (by show j' + 1 ≤ j ∨ j + 1 ≤ j'; omega)

end TileAt

/-- A load of the score tile at head `hd` and place `j`. -/
theorem load_tile {sp : Space} (v : View sig .tc sp S2x8x1024x512 .f32) (f : v.ty.Contents (Elt F)) (hd j : ℕ) (hh : hd < 2) (hj : j < 8)
    {off : Fin 4 → ℕ} (ho : off = ![hd, j, 0, 0]) (inb : ∀ ax, off ax + S1x1x1024x512.size ax ≤ S2x8x1024x512.size ax) :
    v.readAt (Elt F) (Rect.unit (s := S2x8x1024x512) off S1x1x1024x512.size inb).toLoadRect f = tileAt (v.read (Elt F) f) hd j := by
  rw [View.readAt_unit v f inb rfl inb]; exact window_tileAt _ hd j hh hj off ho inb

section Stat

variable {sp : Space} (v : View sig .tc sp S2x1024x128 .f32) (f : v.ty.Contents (Elt F))
  (L : List (View.Piece (Elt F) S2x1024x128 .f32)) (a b : S1x1024x128.Idx → F .f32)

/-- A load of the first head's block of a statistic. -/
theorem load_first (h : v.read (Elt F) f = both a b) (inb : ∀ ax, (![0, 0, 0] : Fin 3 → ℕ) ax + S1x1024x128.size ax ≤ S2x1024x128.size ax) :
    v.readAt (Elt F) (Rect.unit (s := S2x1024x128) ![0, 0, 0] S1x1024x128.size inb).toLoadRect f = a := by
  rw [View.readAt_unit v f inb rfl inb, h]; exact window_both_first a b inb

/-- A store of the first head's block of a statistic. -/
theorem store_first (inb : ∀ ax, (![0, 0, 0] : Fin 3 → ℕ) ax + S1x1024x128.size ax ≤ S2x1024x128.size ax)
    (w : (Rect.unit (s := S2x1024x128) ![0, 0, 0] S1x1024x128.size inb).shape.Idx → F .f32)
    (h : v.read (Elt F) (v.writes (Elt F) f L) = both a b) :
    v.read (Elt F) (v.writes (Elt F) f (⟨(Rect.unit (s := S2x1024x128) ![0, 0, 0] S1x1024x128.size inb), w⟩ :: L)) = both w b := by
  rw [View.read_writes_cons_put v f inb w L rfl, h]; exact put_both_first a b w

/-- A load of the first head's block just stored. -/
theorem reload_first (inb : ∀ ax, (![0, 0, 0] : Fin 3 → ℕ) ax + S1x1024x128.size ax ≤ S2x1024x128.size ax)
    (w : (Rect.unit (s := S2x1024x128) ![0, 0, 0] S1x1024x128.size inb).shape.Idx → F .f32) :
    v.readCov (⟨(Rect.unit (s := S2x1024x128) ![0, 0, 0] S1x1024x128.size inb), w⟩ :: L) (Rect.unit (s := S2x1024x128) ![0, 0, 0] S1x1024x128.size inb).toLoadRect = w := by
  show v.readAt (Elt F) (Rect.unit (s := S2x1024x128) ![0, 0, 0] S1x1024x128.size inb).toLoadRect (v.writes (Elt F) v.junk _) = w
  rw [View.readAt_unit v _ inb rfl inb, View.read_writes_cons_put v _ inb w L rfl]
  exact VecWindow.window_put_same _ _ _ _ _

/-- A load of the first head's block past a store of the other's. -/
theorem reload_first_past (inb : ∀ ax, (![0, 0, 0] : Fin 3 → ℕ) ax + S1x1024x128.size ax ≤ S2x1024x128.size ax) (inb2 : ∀ ax, (![1, 0, 0] : Fin 3 → ℕ) ax + S1x1024x128.size ax ≤ S2x1024x128.size ax)
    (w : (Rect.unit (s := S2x1024x128) ![1, 0, 0] S1x1024x128.size inb2).shape.Idx → F .f32) :
    v.readCov (⟨(Rect.unit (s := S2x1024x128) ![1, 0, 0] S1x1024x128.size inb2), w⟩ :: L) (Rect.unit (s := S2x1024x128) ![0, 0, 0] S1x1024x128.size inb).toLoadRect = v.readCov L (Rect.unit (s := S2x1024x128) ![0, 0, 0] S1x1024x128.size inb).toLoadRect := by
  show v.readAt (Elt F) (Rect.unit (s := S2x1024x128) ![0, 0, 0] S1x1024x128.size inb).toLoadRect (v.writes (Elt F) v.junk _)
    = v.readAt (Elt F) (Rect.unit (s := S2x1024x128) ![0, 0, 0] S1x1024x128.size inb).toLoadRect (v.writes (Elt F) v.junk _)
  rw [View.readAt_unit v _ inb rfl inb, View.readAt_unit v _ inb rfl inb, View.read_writes_cons_put v _ inb2 w L rfl]
  exact VecWindow.window_put_of_disjoint _ _ _ _ _ _ _ 0 (by decide)

/-- A load of the second head's block of a statistic. -/
theorem load_second (h : v.read (Elt F) f = both a b) (inb : ∀ ax, (![1, 0, 0] : Fin 3 → ℕ) ax + S1x1024x128.size ax ≤ S2x1024x128.size ax) :
    v.readAt (Elt F) (Rect.unit (s := S2x1024x128) ![1, 0, 0] S1x1024x128.size inb).toLoadRect f = b := by
  rw [View.readAt_unit v f inb rfl inb, h]; exact window_both_second a b inb

/-- A store of the second head's block of a statistic. -/
theorem store_second (inb : ∀ ax, (![1, 0, 0] : Fin 3 → ℕ) ax + S1x1024x128.size ax ≤ S2x1024x128.size ax)
    (w : (Rect.unit (s := S2x1024x128) ![1, 0, 0] S1x1024x128.size inb).shape.Idx → F .f32)
    (h : v.read (Elt F) (v.writes (Elt F) f L) = both a b) :
    v.read (Elt F) (v.writes (Elt F) f (⟨(Rect.unit (s := S2x1024x128) ![1, 0, 0] S1x1024x128.size inb), w⟩ :: L)) = both a w := by
  rw [View.read_writes_cons_put v f inb w L rfl, h]; exact put_both_second a b w

/-- A load of the second head's block just stored. -/
theorem reload_second (inb : ∀ ax, (![1, 0, 0] : Fin 3 → ℕ) ax + S1x1024x128.size ax ≤ S2x1024x128.size ax)
    (w : (Rect.unit (s := S2x1024x128) ![1, 0, 0] S1x1024x128.size inb).shape.Idx → F .f32) :
    v.readCov (⟨(Rect.unit (s := S2x1024x128) ![1, 0, 0] S1x1024x128.size inb), w⟩ :: L) (Rect.unit (s := S2x1024x128) ![1, 0, 0] S1x1024x128.size inb).toLoadRect = w := by
  show v.readAt (Elt F) (Rect.unit (s := S2x1024x128) ![1, 0, 0] S1x1024x128.size inb).toLoadRect (v.writes (Elt F) v.junk _) = w
  rw [View.readAt_unit v _ inb rfl inb, View.read_writes_cons_put v _ inb w L rfl]
  exact VecWindow.window_put_same _ _ _ _ _

/-- A load of the second head's block past a store of the other's. -/
theorem reload_second_past (inb : ∀ ax, (![1, 0, 0] : Fin 3 → ℕ) ax + S1x1024x128.size ax ≤ S2x1024x128.size ax) (inb2 : ∀ ax, (![0, 0, 0] : Fin 3 → ℕ) ax + S1x1024x128.size ax ≤ S2x1024x128.size ax)
    (w : (Rect.unit (s := S2x1024x128) ![0, 0, 0] S1x1024x128.size inb2).shape.Idx → F .f32) :
    v.readCov (⟨(Rect.unit (s := S2x1024x128) ![0, 0, 0] S1x1024x128.size inb2), w⟩ :: L) (Rect.unit (s := S2x1024x128) ![1, 0, 0] S1x1024x128.size inb).toLoadRect = v.readCov L (Rect.unit (s := S2x1024x128) ![1, 0, 0] S1x1024x128.size inb).toLoadRect := by
  show v.readAt (Elt F) (Rect.unit (s := S2x1024x128) ![1, 0, 0] S1x1024x128.size inb).toLoadRect (v.writes (Elt F) v.junk _)
    = v.readAt (Elt F) (Rect.unit (s := S2x1024x128) ![1, 0, 0] S1x1024x128.size inb).toLoadRect (v.writes (Elt F) v.junk _)
  rw [View.readAt_unit v _ inb rfl inb, View.readAt_unit v _ inb rfl inb, View.read_writes_cons_put v _ inb2 w L rfl]
  exact VecWindow.window_put_of_disjoint _ _ _ _ _ _ _ 0 (by decide)

end Stat

end Cert.Proof.AttnIdeal
-- ==== Proof.AttnIdeal.ScoreLoop.lean ====
/- The first pass of a grid point: two tiles of scores a trip, and the lane maxima. -/
module

public import proofs.«01_k».proof.Proof.AttnIdeal.Places
public import proofs.«01_k».proof.Proof.AttnIdeal.Tiles
public import proofs.«01_k».proof.Proof.Gen.KernelIdeal.Loops
public import proofs.«01_k».proof.Proof.Gen.KernelIdeal.Launch
public import Idealize.ShloMosaic.Lib.Exec
public import Idealize.ShloMosaic.Lib.Tactic

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The tiles before `n` hold their scores. -/
def Scored (q0 q1 : FVec F S1024x128 .bf16) (x : Vec F S4096x256 .bf16) (n : ℕ) (S : S2x8x1024x512.Idx → F .f32) : Prop :=
  ∀ j, j < n → tileAt S 0 j = k0_pay3 q0 (ktile x 0 j) ∧ tileAt S 1 j = k0_pay3 q1 (ktile x 1 j)

/-- Before trip `k`: the scores of the first `2 k` tiles, and the lane maxima over them. -/
@[sl_loop, instance_reducible] def scoreLoop (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole) (arg2 : BitVec 32) (v10 : FVec F S1024x128 .bf16) (v21 : FVec F S1024x128 .bf16) (c2_i32 : BitVec 32) (v26 : BitVec 32) (v31 : BitVec 32) (v36 : BitVec 32) (X4 : BufTy.Contents (Elt F) arg4.view.ty) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 v10 v21 c2_i32 v26 v31 v36 where
  inv := fun k acc => iprop((arg4.view.loc (c : Thread nD τ) ↦[arg4.view.set]{fullShare} X4)
    ∗ (∃ f12 f13, (arg12.view.loc (c : Thread nD τ) ↦[arg12.view.set]{fullShare} f12) ∗ (arg13.view.loc (c : Thread nD τ) ↦[arg13.view.set]{fullShare} f13)
      ∗ ⌜Scored v10 v21 (arg4.view.read (Elt F) X4) (2 * k) (arg12.view.read (Elt F) f12)
          ∧ arg13.view.read (Elt F) f13 = both (lanes v10 (arg4.view.read (Elt F) X4) 0 (2 * k)) (lanes v21 (arg4.view.read (Elt F) X4) 1 (2 * k))⌝))
  step := fun k acc => by
    unfold k0_t1_body
    iintro ⟨H4, ⟨%f12, %f13, H12, H13, %h⟩⟩
    sl_exec
    sl_step
    isplitl [H4]; · iexact H4
    iexists _, _
    isplitl [H12]; · iexact H12
    isplitl [H13]; · iexact H13
    ipureintro
    obtain ⟨hS, hM⟩ := h
    have hk : k.val < (i 2).val / 2 := (trips_scores i) ▸ k.isLt
    have hi : (i 2).val < 8 := (i 2).isLt
    sl_unfold_run_names
    rw [load_ktile arg4.view X4 1 (2 * k.val + 1) (by omega) (by omega) (off7_eq i k),
      load_ktile arg4.view X4 0 (2 * k.val + 1) (by omega) (by omega) (off5_eq i k),
      load_ktile arg4.view X4 1 (2 * k.val) (by omega) (by omega) (off3_eq i k),
      load_ktile arg4.view X4 0 (2 * k.val) (by omega) (by omega) (off1_eq i k)]
    refine ⟨fun j hj => ?_, ?_⟩
    · rw [View.read_writes_cons_put _ _ _ _ _ (off8_eq i k), View.read_writes_cons_put _ _ _ _ _ (off6_eq i k),
        View.read_writes_cons_put _ _ _ _ _ (off4_eq i k), View.read_writes_cons_put _ _ _ _ _ (off2_eq i k), View.writes_nil]
      rcases (by omega : j = 2 * k.val + 1 ∨ j = 2 * k.val ∨ j < 2 * k.val) with rfl | rfl | hlt
      · refine ⟨?_, ?_⟩
        · rw [tileAt_put_other _ _ _ 0 _ (by omega) (by omega) (by omega), tileAt_put_same _ 0 _ (by omega) (by omega)]; rfl
        · rw [tileAt_put_same _ 1 _ (by omega) (by omega)]; rfl
      · refine ⟨?_, ?_⟩
        · rw [tileAt_put_other _ _ _ 0 _ (by omega) (by omega) (by omega), tileAt_put_other _ _ _ 0 _ (by omega) (by omega) (by omega),
            tileAt_put_other _ _ _ 0 _ (by omega) (by omega) (by omega), tileAt_put_same _ 0 _ (by omega) (by omega)]
        · rw [tileAt_put_other _ _ _ 1 _ (by omega) (by omega) (by omega), tileAt_put_other _ _ _ 1 _ (by omega) (by omega) (by omega),
            tileAt_put_same _ 1 _ (by omega) (by omega)]; rfl
      · refine ⟨?_, ?_⟩
        · rw [tileAt_put_other _ _ _ 0 _ (by omega) (by omega) (by omega), tileAt_put_other _ _ _ 0 _ (by omega) (by omega) (by omega),
            tileAt_put_other _ _ _ 0 _ (by omega) (by omega) (by omega), tileAt_put_other _ _ _ 0 _ (by omega) (by omega) (by omega)]
          exact (hS j hlt).1
        · rw [tileAt_put_other _ _ _ 1 _ (by omega) (by omega) (by omega), tileAt_put_other _ _ _ 1 _ (by omega) (by omega) (by omega),
            tileAt_put_other _ _ _ 1 _ (by omega) (by omega) (by omega), tileAt_put_other _ _ _ 1 _ (by omega) (by omega) (by omega)]
          exact (hS j hlt).2
    · rw [store_second _ _ _ _ _ _ _ (store_first _ _ _ _ _ _ _ (store_second _ _ _ _ _ _ _ (store_first _ _ [] _ _ _ _ hM)))]
      rw [reload_second_past, reload_second, reload_first_past, reload_first, load_first _ _ _ _ hM, load_second _ _ _ _ hM]
      rfl

end Cert.Proof.AttnIdeal
-- ==== Proof.AttnIdeal.FirstPass.lean ====
/- The first pass of a grid point, part by part. -/
module

public import proofs.«01_k».proof.Proof.AttnIdeal.Places
public import proofs.«01_k».proof.Proof.AttnIdeal.ScoreLoop
public import Idealize.ShloMosaic.Lib.LoopRemainder
public import proofs.«01_k».proof.Proof.Gen.KernelIdeal.Loops
public import proofs.«01_k».proof.Proof.Gen.KernelIdeal.Launch
public import Idealize.ShloMosaic.Lib.Exec
public import Idealize.ShloMosaic.Lib.Tactic

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable {F : FTy → Type} [FloatOps F] [Named F]
local notation "𝕄" => MT nD τ sig Unit (Elt F) ℕ (UR sig nD τ) ℕ
/-- The lane maxima's fill. -/
theorem fill_max (q0 q1 : FVec F S1024x128 .bf16) (x : Vec F S4096x256 .bf16) : k0_pay118 (F := F) = both (lanes q0 x 0 0) (lanes q1 x 1 0) := by
  funext y; unfold both; split <;> rfl

/-- The diagonal's tile as the kernel stores it. -/
theorem masked_eq (q : FVec F S1024x128 .bf16) (k : Vec F S512x128 .bf16) :
    k0_pay130 (k0_pay128 q k) (iota .tc S1024x512 32 [0] iota_S1024x512_d0_w32) (iota .tc S1024x512 32 [1] iota_S1024x512_d1_w32) k0_pay129 512#32
      = k0_pay133 q k := rfl

/-- Every tile up to the diagonal's holds its scores. -/
def Complete (q0 q1 : FVec F S1024x128 .bf16) (x : Vec F S4096x256 .bf16) (i : ℕ) (S : S2x8x1024x512.Idx → F .f32) : Prop :=
  ∀ j, j ≤ i → tileAt S 0 j = scores q0 x 0 i j ∧ tileAt S 1 j = scores q1 x 1 i j

/-- The queries of both heads and the lane maxima filled. -/
theorem part16_spec (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole)
    (x0 : Vec F S512x256 .bf16) (x1 : Vec F S4096x256 .bf16) (K : (Σ' (arg2 : BitVec 32) (v10 : FVec F S1024x128 .bf16) (v21 : FVec F S1024x128 .bf16) (c2_i32 : BitVec 32) (v26 : BitVec 32) (v31 : BitVec 32), BitVec 32) → sProp 𝕄) :
    iprop(owns (c : Thread nD τ) arg3 fullShare (x0) ∗ (∃ d, owns (c : Thread nD τ) arg13 fullShare d) ∗ (iprop(∀ arg2 c2_i32 v26 v31 v36, (owns (c : Thread nD τ) arg3 fullShare (x0) ∗ owns (c : Thread nD τ) arg13 fullShare (both (lanes (stacked x0 0) x1 0 0) (lanes (stacked x0 1) x1 1 0))) -∗ K ⟨arg2, stacked x0 0, stacked x0 1, c2_i32, v26, v31, v36⟩)))
      ⊢ wp frame (wpE (defs₀ (F := F)) Variants.none c none) Set.univ (k0_part16 i arg3 harg3 arg4 harg4 arg5 harg5 arg6 harg6 arg7 harg7 arg8 harg8 arg9 harg9 arg10 harg10 arg11 harg11 arg12 harg12 arg13 harg13 arg14 harg14 arg15 harg15) K := by
  simp only [k0_part16_eq_skeleton]; unfold k0_part16_skel
  unfold owns
  iintro ⟨⟨%f3, %hf3, H3⟩, ⟨%d13, %f13, -, H13⟩, Hk⟩
  subst hf3
  sl_exec
  sl_step
  sl_unfold_run_names
  rw [load_qhead arg3.view f3 0 (by decide) rfl, load_qhead arg3.view f3 1 (by decide) rfl,
    show k0_pay116 (qhead (arg3.view.read (Elt F) f3) 0) = stacked (arg3.view.read (Elt F) f3) 0 from rfl,
    show k0_pay117 (qhead (arg3.view.read (Elt F) f3) 1) = stacked (arg3.view.read (Elt F) f3) 1 from rfl]
  iapply Hk
  isplitl [H3]
  · iexists f3; isplitr; · ipureintro; rfl
    iexact H3
  iexists _; isplitr
  swap; · iexact H13
  ipureintro
  rw [View.read_writes_full]
  exact fill_max _ _ _

/-- The tiles before the diagonal: their scores, and the lane maxima over them. -/
theorem part17_spec (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole)
    (arg2 : BitVec 32) (q0 q1 : FVec F S1024x128 .bf16) (c2_i32 : BitVec 32) (v26 : BitVec 32) (v31 : BitVec 32) (v36 : BitVec 32) (x1 : Vec F S4096x256 .bf16) (K : (Σ' (v62 : BitVec 32) (v68 : FVec F S1024x512 .f32) (v69 : IVec S1024x512 32) (v70 : IVec S1024x512 32) (v72 : IVec S1024x512 1), BitVec 32) → sProp 𝕄) :
    iprop(owns (c : Thread nD τ) arg4 fullShare (x1) ∗ (∃ d, owns (c : Thread nD τ) arg12 fullShare d) ∗ owns (c : Thread nD τ) arg13 fullShare (both (lanes q0 x1 0 0) (lanes q1 x1 1 0)) ∗ (iprop(∀ v62, (owns (c : Thread nD τ) arg4 fullShare (x1) ∗ ∃ S, owns (c : Thread nD τ) arg12 fullShare (S) ∗ owns (c : Thread nD τ) arg13 fullShare (both (lanes q0 x1 0 (i 2).val) (lanes q1 x1 1 (i 2).val)) ∗ ⌜Scored q0 q1 x1 (i 2).val S⌝) -∗ K ⟨v62, k0_pay128 q0 (ktile x1 0 (i 2).val), iota .tc S1024x512 32 [0] iota_S1024x512_d0_w32, iota .tc S1024x512 32 [1] iota_S1024x512_d1_w32, k0_pay129, 512#32⟩)))
      ⊢ wp frame (wpE (defs₀ (F := F)) Variants.none c none) Set.univ (k0_part17 i arg3 harg3 arg4 harg4 arg5 harg5 arg6 harg6 arg7 harg7 arg8 harg8 arg9 harg9 arg10 harg10 arg11 harg11 arg12 harg12 arg13 harg13 arg14 harg14 arg15 harg15 arg2 q0 q1 c2_i32 v26 v31 v36) K := by
  simp only [k0_part17_eq_skeleton]; unfold k0_part17_skel
  simp only [k0_part5_eq_skeleton]
  unfold owns
  iintro ⟨⟨%f4, %hf4, H4⟩, ⟨%d12, %f12, -, H12⟩, ⟨%f13, %hf13, H13⟩, Hk⟩
  subst hf4
  have h0 : Scored q0 q1 (arg4.view.read (Elt F) f4) (2 * 0) (arg12.view.read (Elt F) f12)
      ∧ arg13.view.read (Elt F) f13 = both (lanes q0 (arg4.view.read (Elt F) f4) 0 (2 * 0)) (lanes q1 (arg4.view.read (Elt F) f4) 1 (2 * 0)) :=
    ⟨fun j hj => absurd hj (by omega), hf13⟩
  have hi : (i 2).val < 8 := (i 2).isLt
  have ht := trips_scores i
  by_cases h1 : k0_cond1 i = 1#1
  · have hodd := (odd_scores i).mp h1
    obtain ⟨n, hn⟩ : ∃ n, (i 2).val = n + 1 := ⟨(i 2).val - 1, by omega⟩
    have ho17 : k0_off17 i = ![512 * n, 128 * 0] := by rw [off17_eq i h1, hn]; rfl
    have ho18 : k0_off18 i = ![0, n, 0, 0] := by rw [off18_eq i h1, hn]; rfl
    have ho19 : k0_off19 i = ![512 * n, 128 * 1] := by rw [off19_eq i h1, hn]; rfl
    have ho20 : k0_off20 i = ![1, n, 0, 0] := by rw [off20_eq i h1, hn]; rfl
    sl_exec
    sl_step
    obtain ⟨hS, hM⟩ := hL3
    rw [show 2 * Scf.trips (k0_t1_loop i).lb (k0_t1_loop i).ub (k0_t1_loop i).st = n by rw [show Scf.trips (k0_t1_loop i).lb (k0_t1_loop i).ub (k0_t1_loop i).st = _ from ht]; omega] at hS hM
    sl_unfold_run_names
    rw [load_ktile arg4.view f4 0 n (by omega) (by omega) ho17, load_ktile arg4.view f4 1 n (by omega) (by omega) ho19,
      load_ktile arg4.view f4 0 (i 2).val (by omega) (by omega) (k0_off21_eq i), load_first _ _ _ _ hM, load_second _ _ _ _ hM]
    iapply Hk
    isplitl [H4]
    · iexists f4; isplitr; · ipureintro; rfl
      iexact H4
    iexists _
    isplitl [H12]
    · iexists _; isplitr
      swap; · iexact H12
      ipureintro; rfl
    isplitl [H13]
    · iexists _; isplitr
      swap; · iexact H13
      ipureintro
      rw [store_second _ _ _ _ _ _ _ (store_first _ _ [] _ _ _ _ hM), hn]; rfl
    ipureintro
    intro j hj
    rw [View.read_writes_cons_put _ _ _ _ _ ho20, View.read_writes_cons_put _ _ _ _ _ ho18, View.writes_nil]
    rcases (by omega : j = n ∨ j < n) with rfl | hlt
    · refine ⟨?_, ?_⟩
      · rw [tileAt_put_other _ _ _ 0 _ (by omega) (by omega) (by omega), tileAt_put_same _ 0 _ (by omega) (by omega)]; rfl
      · rw [tileAt_put_same _ 1 _ (by omega) (by omega)]; rfl
    · refine ⟨?_, ?_⟩
      · rw [tileAt_put_other _ _ _ 0 _ (by omega) (by omega) (by omega), tileAt_put_other _ _ _ 0 _ (by omega) (by omega) (by omega)]
        exact (hS j hlt).1
      · rw [tileAt_put_other _ _ _ 1 _ (by omega) (by omega) (by omega), tileAt_put_other _ _ _ 1 _ (by omega) (by omega) (by omega)]
        exact (hS j hlt).2
  · have hodd : ¬ (i 2).val % 2 = 1 := fun h => h1 ((odd_scores i).mpr h)
    sl_exec
    sl_step
    obtain ⟨hS, hM⟩ := hL3
    rw [show 2 * Scf.trips (k0_t1_loop i).lb (k0_t1_loop i).ub (k0_t1_loop i).st = (i 2).val by rw [show Scf.trips (k0_t1_loop i).lb (k0_t1_loop i).ub (k0_t1_loop i).st = _ from ht]; omega] at hS hM
    rw [load_ktile arg4.view f4 0 (i 2).val (by omega) (by omega) (k0_off21_eq i)]
    iapply Hk
    isplitl [H4]
    · iexists f4; isplitr; · ipureintro; rfl
      iexact H4
    iexists _
    isplitl [H12]
    · iexists _; isplitr
      swap; · iexact H12
      ipureintro; rfl
    isplitl [H13]
    · iexists _; isplitr
      swap; · iexact H13
      ipureintro
      exact hM
    ipureintro
    exact hS

/-- The diagonal's tile of the first head, and the second head's scores on it. -/
theorem part18_spec (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole)
    (arg2 : BitVec 32) (q0 q1 : FVec F S1024x128 .bf16) (v62 : BitVec 32) (x1 : Vec F S4096x256 .bf16) (S : Vec F S2x8x1024x512 .f32) (hS : Scored q0 q1 x1 (i 2).val S) (K : (FVec F S1024x512 .f32) → sProp 𝕄) :
    iprop(owns (c : Thread nD τ) arg4 fullShare (x1) ∗ owns (c : Thread nD τ) arg12 fullShare (S) ∗ owns (c : Thread nD τ) arg13 fullShare (both (lanes q0 x1 0 (i 2).val) (lanes q1 x1 1 (i 2).val)) ∗ (iprop((owns (c : Thread nD τ) arg4 fullShare (x1) ∗ ∃ S, owns (c : Thread nD τ) arg12 fullShare (S) ∗ owns (c : Thread nD τ) arg13 fullShare (both (k0_pay7 (masked q0 x1 0 (i 2).val) (lanes q0 x1 0 (i 2).val)) (lanes q1 x1 1 (i 2).val)) ∗ ⌜Scored q0 q1 x1 (i 2).val S ∧ tileAt S 0 (i 2).val = k0_pay134 (masked q0 x1 0 (i 2).val)⌝) -∗ K (masked q1 x1 1 (i 2).val))))
      ⊢ wp frame (wpE (defs₀ (F := F)) Variants.none c none) Set.univ (k0_part18 i arg3 harg3 arg4 harg4 arg5 harg5 arg6 harg6 arg7 harg7 arg8 harg8 arg9 harg9 arg10 harg10 arg11 harg11 arg12 harg12 arg13 harg13 arg14 harg14 arg15 harg15 arg2 q1 v62 (k0_pay128 q0 (ktile x1 0 (i 2).val)) (iota .tc S1024x512 32 [0] iota_S1024x512_d0_w32) (iota .tc S1024x512 32 [1] iota_S1024x512_d1_w32) k0_pay129 512#32) K := by
  simp only [k0_part18_eq_skeleton]; unfold k0_part18_skel
  unfold owns
  iintro ⟨⟨%f4, %hf4, H4⟩, ⟨%f12, %hf12, H12⟩, ⟨%f13, %hf13, H13⟩, Hk⟩
  subst hf4 hf12
  have hi : (i 2).val < 8 := (i 2).isLt
  sl_exec
  sl_step
  sl_unfold_run_names
  rw [load_ktile arg4.view f4 1 (i 2).val (by omega) (by omega) (k0_off23_eq i), load_first _ _ _ _ hf13,
    show k0_pay133 q1 (ktile (arg4.view.read (Elt F) f4) 1 (i 2).val) = masked q1 (arg4.view.read (Elt F) f4) 1 (i 2).val from rfl]
  iapply Hk
  isplitl [H4]
  · iexists f4; isplitr; · ipureintro; rfl
    iexact H4
  iexists _
  isplitl [H12]
  · iexists _; isplitr
    swap; · iexact H12
    ipureintro; rfl
  isplitl [H13]
  · iexists _; isplitr
    swap; · iexact H13
    ipureintro
    rw [store_first _ _ [] _ _ _ _ hf13]; rfl
  ipureintro
  rw [View.read_writes_cons_put _ _ _ _ _ (k0_off22_eq i), View.writes_nil]
  refine ⟨fun j hj => ⟨?_, ?_⟩, ?_⟩
  · rw [tileAt_put_other _ _ _ 0 _ (by omega) (by omega) (by omega)]; exact (hS j hj).1
  · rw [tileAt_put_other _ _ _ 1 _ (by omega) (by omega) (by omega)]; exact (hS j hj).2
  · rw [tileAt_put_same _ 0 _ (by omega) (by omega)]; rfl

/-- The diagonal's tile of the second head, and the row maxima. -/
theorem part19_spec (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole)
    (q0 q1 : FVec F S1024x128 .bf16) (x1 : Vec F S4096x256 .bf16) (S : Vec F S2x8x1024x512 .f32) (hS : Scored q0 q1 x1 (i 2).val S) (hD : tileAt S 0 (i 2).val = k0_pay134 (masked q0 x1 0 (i 2).val)) (K : (F .f32) → sProp 𝕄) :
    iprop(owns (c : Thread nD τ) arg12 fullShare (S) ∗ owns (c : Thread nD τ) arg13 fullShare (both (k0_pay7 (masked q0 x1 0 (i 2).val) (lanes q0 x1 0 (i 2).val)) (lanes q1 x1 1 (i 2).val)) ∗ (iprop((∃ S, owns (c : Thread nD τ) arg12 fullShare (S) ∗ owns (c : Thread nD τ) arg13 fullShare (both (rowmax q0 x1 0 (i 2).val) (rowmax q1 x1 1 (i 2).val)) ∗ ⌜Complete q0 q1 x1 (i 2).val S⌝) -∗ K (Scalar.ofBits .f32 0x00000000#32))))
      ⊢ wp frame (wpE (defs₀ (F := F)) Variants.none c none) Set.univ (k0_part19 i arg3 harg3 arg4 harg4 arg5 harg5 arg6 harg6 arg7 harg7 arg8 harg8 arg9 harg9 arg10 harg10 arg11 harg11 arg12 harg12 arg13 harg13 arg14 harg14 arg15 harg15 (masked q1 x1 1 (i 2).val)) K := by
  simp only [k0_part19_eq_skeleton]; unfold k0_part19_skel
  unfold owns
  iintro ⟨⟨%f12, %hf12, H12⟩, ⟨%f13, %hf13, H13⟩, Hk⟩
  subst hf12
  have hi : (i 2).val < 8 := (i 2).isLt
  sl_exec
  sl_step
  sl_unfold_run_names
  iapply Hk
  iexists _
  isplitl [H12]
  · iexists _; isplitr
    swap; · iexact H12
    ipureintro; rfl
  isplitl [H13]
  · iexists _; isplitr
    swap; · iexact H13
    ipureintro
    rw [store_second _ _ _ _ _ _ _ (store_first _ _ _ _ _ _ _ (store_second _ _ [] _ _ _ _ hf13))]
    rw [reload_second_past, reload_second, load_second _ _ _ _ hf13]
    rw [load_first _ _ _ _ hf13]; rfl
  ipureintro
  intro j hj
  rw [View.read_writes_cons_put _ _ _ _ _ (k0_off24_eq i), View.writes_nil]
  rcases (by omega : j = (i 2).val ∨ j < (i 2).val) with rfl | hlt
  · rw [tileAt_put_other _ _ _ 0 _ (by omega) (by omega) (by omega), tileAt_put_same _ 1 _ (by omega) (by omega), hD]
    unfold scores; rw [if_neg (Nat.lt_irrefl _)]; exact ⟨rfl, if_neg (Nat.lt_irrefl _) ▸ rfl⟩
  · rw [tileAt_put_other _ _ _ 0 _ (by omega) (by omega) (by omega), tileAt_put_other _ _ _ 1 _ (by omega) (by omega) (by omega)]
    unfold scores; rw [if_pos hlt, if_pos hlt]; exact hS j hlt

end Cert.Proof.AttnIdeal
-- ==== Proof.AttnIdeal.SumLoop.lean ====
/- The second pass of a grid point: two tiles a trip, each into the sums of the exponentials and of the weighted values. -/
module

public import proofs.«01_k».proof.Proof.AttnIdeal.Places
public import proofs.«01_k».proof.Proof.AttnIdeal.Tiles
public import proofs.«01_k».proof.Proof.Gen.KernelIdeal.Loops
public import proofs.«01_k».proof.Proof.Gen.KernelIdeal.Launch
public import Idealize.ShloMosaic.Lib.Exec
public import Idealize.ShloMosaic.Lib.Tactic

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The two statistics hold the sums over the first `n` tiles. -/
structure Summed (S : S2x8x1024x512.Idx → F .f32) (m0 m1 : Vec F S1x1024x128 .f32) (x : Vec F S4096x256 .bf16) (n : ℕ)
    (l a : S2x1024x128.Idx → F .f32) : Prop where
  /-- The sums of the exponentials. -/
  exps : l = both (sums (tileAt S 0) m0 n) (sums (tileAt S 1) m1 n)
  /-- The sums of the weighted values. -/
  vals : a = both (weighted (tileAt S 0) m0 x 0 n) (weighted (tileAt S 1) m1 x 1 n)

/-- Before trip `k`: the sums over the first `2 k` tiles. -/
@[sl_loop, instance_reducible] def sumLoop (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole) (arg2 : BitVec 32) (cst_70 : F .f32) (X5 : BufTy.Contents (Elt F) arg5.view.ty) (X12 : BufTy.Contents (Elt F) arg12.view.ty) (X13 : BufTy.Contents (Elt F) arg13.view.ty) :
    LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 cst_70 where
  inv := fun k acc => iprop((arg5.view.loc (c : Thread nD τ) ↦[arg5.view.set]{fullShare} X5) ∗ (arg12.view.loc (c : Thread nD τ) ↦[arg12.view.set]{fullShare} X12) ∗ (arg13.view.loc (c : Thread nD τ) ↦[arg13.view.set]{fullShare} X13)
    ∗ (∃ f14 f15, (arg14.view.loc (c : Thread nD τ) ↦[arg14.view.set]{fullShare} f14) ∗ (arg15.view.loc (c : Thread nD τ) ↦[arg15.view.set]{fullShare} f15)
      ∗ ⌜Summed (arg12.view.read (Elt F) X12) (first (arg13.view.read (Elt F) X13)) (second (arg13.view.read (Elt F) X13)) (arg5.view.read (Elt F) X5) (2 * k)
          (arg14.view.read (Elt F) f14) (arg15.view.read (Elt F) f15)⌝))
  step := fun k acc => by
    unfold k0_t3_body
    iintro ⟨H5, H12, H13, ⟨%f14, %f15, H14, H15, %h⟩⟩
    sl_exec
    sl_step
    isplitl [H5]; · iexact H5
    isplitl [H12]; · iexact H12
    isplitl [H13]; · iexact H13
    iexists _, _
    isplitl [H14]; · iexact H14
    isplitl [H15]; · iexact H15
    ipureintro
    obtain ⟨hL, hA⟩ := h
    have hk : k.val < ((i 2).val + 1) / 2 := (trips_sums i) ▸ k.isLt
    have hi : (i 2).val < 8 := (i 2).isLt
    have hM := eq_both (arg13.view.read (Elt F) X13)
    have ho32 : k0_off32 i k = ![512 * (2 * k.val + 1), 128 * 1] := by rw [k0_off32_eq i k]; congr 1; omega
    have ho30 : k0_off30 i k = ![512 * (2 * k.val + 1), 128 * 0] := by rw [k0_off30_eq i k]; congr 1; omega
    have ho28 : k0_off28 i k = ![512 * (2 * k.val), 128 * 1] := by rw [k0_off28_eq i k]; congr 1; omega
    have ho26 : k0_off26 i k = ![512 * (2 * k.val), 128 * 0] := by rw [k0_off26_eq i k]; congr 1; omega
    sl_unfold_run_names
    rw [load_ktile arg5.view X5 1 (2 * k.val + 1) (by omega) (by omega) ho32,
      load_ktile arg5.view X5 0 (2 * k.val + 1) (by omega) (by omega) ho30,
      load_ktile arg5.view X5 1 (2 * k.val) (by omega) (by omega) ho28,
      load_ktile arg5.view X5 0 (2 * k.val) (by omega) (by omega) ho26,
      load_tile arg12.view X12 1 (2 * k.val + 1) (by omega) (by omega) (k0_off31_eq i k),
      load_tile arg12.view X12 0 (2 * k.val + 1) (by omega) (by omega) (k0_off29_eq i k),
      load_tile arg12.view X12 1 (2 * k.val) (by omega) (by omega) (k0_off27_eq i k),
      load_tile arg12.view X12 0 (2 * k.val) (by omega) (by omega) (k0_off25_eq i k),
      load_first _ _ _ _ hM, load_second _ _ _ _ hM]
    refine ⟨?_, ?_⟩
    · rw [store_second _ _ _ _ _ _ _ (store_first _ _ _ _ _ _ _ (store_second _ _ _ _ _ _ _ (store_first _ _ [] _ _ _ _ hL)))]
      rw [reload_second_past, reload_second, reload_first_past, reload_first, load_first _ _ _ _ hL, load_second _ _ _ _ hL]
      rfl
    · rw [store_second _ _ _ _ _ _ _ (store_first _ _ _ _ _ _ _ (store_second _ _ _ _ _ _ _ (store_first _ _ [] _ _ _ _ hA)))]
      rw [reload_second_past, reload_second, reload_first_past, reload_first, load_first _ _ _ _ hA, load_second _ _ _ _ hA]
      rfl

/-- The second pass has no trip past the pairs. -/
theorem no_rest (i : grid0.Coords) (k : Fin (k0_t4_loop i).trips) : False :=
  Nat.not_lt_zero k.val (Nat.lt_of_lt_of_le k.isLt (k0_t4_abs i).2.1)

/-- The loop of no trips after the second pass. -/
@[sl_loop, instance_reducible] def sumRest (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole) (arg2 : BitVec 32) (cst_70 : F .f32) (v177 : BitVec 32) :
    LoopInvTy_k0_t4 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 cst_70 v177 where
  inv := fun _ acc => iprop(⌜acc = ()⌝)
  step := fun k _ => (no_rest i k).elim

end Cert.Proof.AttnIdeal
-- ==== Proof.AttnIdeal.SecondPass.lean ====
/- The second pass of a grid point, part by part. -/
module

public import proofs.«01_k».proof.Proof.AttnIdeal.Places
public import proofs.«01_k».proof.Proof.AttnIdeal.SumLoop
public import proofs.«01_k».proof.Proof.Gen.KernelIdeal.Loops
public import proofs.«01_k».proof.Proof.Gen.KernelIdeal.Launch
public import Idealize.ShloMosaic.Lib.Exec
public import Idealize.ShloMosaic.Lib.Tactic

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable {F : FTy → Type} [FloatOps F] [Named F]
local notation "𝕄" => MT nD τ sig Unit (Elt F) ℕ (UR sig nD τ) ℕ
/-- The sums' fill. -/
theorem fill_sums (s0 s1 : ℕ → FVec F S1x1x1024x512 .f32) (m0 m1 : Vec F S1x1024x128 .f32) :
    k0_pay138 (F := F) (Scalar.ofBits .f32 0x00000000#32) = both (sums s0 m0 0) (sums s1 m1 0) := by
  funext y; unfold both; split <;> rfl

/-- The weighted sums' fill. -/
theorem fill_weighted (s0 s1 : ℕ → FVec F S1x1x1024x512 .f32) (m0 m1 : Vec F S1x1024x128 .f32) (x : Vec F S4096x256 .bf16) :
    k0_pay139 (F := F) = both (weighted s0 m0 x 0 0) (weighted s1 m1 x 1 0) := by
  funext y; unfold both; split <;> rfl

/-- The first head's block of a statistic built of two blocks. -/
theorem first_both {α : Type} (a b : S1x1024x128.Idx → α) : first (both a b) = a := by
  funext y
  have h0 : (y 0).val < 1 := (y 0).isLt
  unfold first both
  refine (if_pos (show (0 : ℕ) = 0 from rfl)).trans (congrArg a (funext fun ax => Fin.ext ?_))
  match ax with
  | ⟨0, _⟩ => show 0 = (y 0).val; omega
  | ⟨1, _⟩ => rfl
  | ⟨2, _⟩ => rfl

/-- The second head's block of a statistic built of two blocks. -/
theorem second_both {α : Type} (a b : S1x1024x128.Idx → α) : second (both a b) = b := by
  funext y
  have h0 : (y 0).val < 1 := (y 0).isLt
  unfold second both
  refine (if_neg (show ¬ (1 : ℕ) = 0 from Nat.one_ne_zero)).trans (congrArg b (funext fun ax => Fin.ext ?_))
  match ax with
  | ⟨0, _⟩ => show 0 = (y 0).val; omega
  | ⟨1, _⟩ => rfl
  | ⟨2, _⟩ => rfl

/-- The sums read the tiles they count only. -/
theorem sums_congr (s s' : ℕ → FVec F S1x1x1024x512 .f32) (m : Vec F S1x1024x128 .f32) :
    ∀ n, (∀ j, j < n → s j = s' j) → sums s m n = sums s' m n
  | 0, _ => rfl
  | n + 1, h => by
    show k0_pay31 (s n) m (sums s m n) = k0_pay31 (s' n) m (sums s' m n)
    rw [h n (Nat.lt_succ_self n), sums_congr s s' m n fun j hj => h j (Nat.lt_succ_of_lt hj)]

/-- The weighted sums read the tiles they count only. -/
theorem weighted_congr (s s' : ℕ → FVec F S1x1x1024x512 .f32) (m : Vec F S1x1024x128 .f32) (v : Vec F S4096x256 .bf16) (hd : ℕ) :
    ∀ n, (∀ j, j < n → s j = s' j) → weighted s m v hd n = weighted s' m v hd n
  | 0, _ => rfl
  | n + 1, h => by
    show k0_pay33 (k0_pay32 (s n) m (weighted s m v hd n) (ktile v hd n)) = k0_pay33 (k0_pay32 (s' n) m (weighted s' m v hd n) (ktile v hd n))
    rw [h n (Nat.lt_succ_self n), weighted_congr s s' m v hd n fun j hj => h j (Nat.lt_succ_of_lt hj)]

/-- One more tile in the sums. -/
theorem sums_next (s : ℕ → FVec F S1x1x1024x512 .f32) (m : Vec F S1x1024x128 .f32) (n : ℕ) :
    sums s m (n + 1) = k0_pay105 (s n) m (sums s m n) := rfl

/-- One more tile in the weighted sums. -/
theorem weighted_next (s : ℕ → FVec F S1x1x1024x512 .f32) (m : Vec F S1x1024x128 .f32) (v : Vec F S4096x256 .bf16) (hd n : ℕ) :
    weighted s m v hd (n + 1) = k0_pay107 (k0_pay106 (s n) m (weighted s m v hd n) (ktile v hd n)) := rfl

attribute [local irreducible] sums weighted both

/-- The pairs of tiles: the sums of the exponentials and of the weighted values over them. -/
theorem part20_spec (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole)
    (arg2 : BitVec 32) (x2 : Vec F S4096x256 .bf16) (S : Vec F S2x8x1024x512 .f32) (m0 m1 : Vec F S1x1024x128 .f32) (K : (Σ' (v155 : BitVec 32), BitVec 32) → sProp 𝕄) :
    iprop(owns (c : Thread nD τ) arg5 fullShare (x2) ∗ owns (c : Thread nD τ) arg12 fullShare (S) ∗ owns (c : Thread nD τ) arg13 fullShare (both m0 m1) ∗ (∃ d, owns (c : Thread nD τ) arg14 fullShare d) ∗ (∃ d, owns (c : Thread nD τ) arg15 fullShare d) ∗ (iprop(∀ v155 v179, (owns (c : Thread nD τ) arg5 fullShare (x2) ∗ owns (c : Thread nD τ) arg12 fullShare (S) ∗ owns (c : Thread nD τ) arg13 fullShare (both m0 m1) ∗ owns (c : Thread nD τ) arg14 fullShare (both (sums (tileAt S 0) m0 (2 * (((i 2).val + 1) / 2))) (sums (tileAt S 1) m1 (2 * (((i 2).val + 1) / 2)))) ∗ owns (c : Thread nD τ) arg15 fullShare (both (weighted (tileAt S 0) m0 x2 0 (2 * (((i 2).val + 1) / 2))) (weighted (tileAt S 1) m1 x2 1 (2 * (((i 2).val + 1) / 2))))) -∗ K ⟨v155, v179⟩)))
      ⊢ wp frame (wpE (defs₀ (F := F)) Variants.none c none) Set.univ (k0_part20 i arg3 harg3 arg4 harg4 arg5 harg5 arg6 harg6 arg7 harg7 arg8 harg8 arg9 harg9 arg10 harg10 arg11 harg11 arg12 harg12 arg13 harg13 arg14 harg14 arg15 harg15 arg2 (Scalar.ofBits .f32 0x00000000#32)) K := by
  simp only [k0_part20_eq_skeleton]; unfold k0_part20_skel
  unfold owns
  iintro ⟨⟨%f5, %hf5, H5⟩, ⟨%f12, %hf12, H12⟩, ⟨%f13, %hf13, H13⟩, ⟨%d14, %f14, -, H14⟩, ⟨%d15, %f15, -, H15⟩, Hk⟩
  subst hf5 hf12
  have hm0 : (first (arg13.view.read (Elt F) f13)) = m0 := by rw [hf13]; exact first_both _ _
  have hm1 : (second (arg13.view.read (Elt F) f13)) = m1 := by rw [hf13]; exact second_both _ _
  have ht := trips_sums i
  have hl0 := View.read_writes_full arg14.view (Val := Elt F) f14 inb_S2x1024x128_S2x1024x128_0_0_0 (k0_pay138 (F := F) (Scalar.ofBits .f32 0x00000000#32)) []
  have ha0 := View.read_writes_full arg15.view (Val := Elt F) f15 inb_S2x1024x128_S2x1024x128_0_0_0 (k0_pay139 (F := F)) []
  set_option sl_exec.maxSteps 4 in sl_exec
  generalize arg14.view.writes (Elt F) _ _ = g14 at hl0 ⊢
  generalize arg15.view.writes (Elt F) _ _ = g15 at ha0 ⊢
  have h0 : Summed (arg12.view.read (Elt F) f12) (first (arg13.view.read (Elt F) f13)) (second (arg13.view.read (Elt F) f13)) (arg5.view.read (Elt F) f5) (2 * 0) (arg14.view.read (Elt F) g14) (arg15.view.read (Elt F) g15) :=
    ⟨hl0.trans (fill_sums _ _ _ _), ha0.trans (fill_weighted _ _ _ _ _)⟩
  clear hl0 ha0
  sl_exec
  sl_step
  obtain ⟨hL, hA⟩ := hL5
  rw [show Scf.trips (k0_t3_loop i).lb (k0_t3_loop i).ub (k0_t3_loop i).st = _ from ht, hm0, hm1] at hL hA
  iapply Hk
  isplitl [H5]
  · iexists _; isplitr
    swap; · iexact H5
    ipureintro; first | rfl | assumption
  isplitl [H12]
  · iexists _; isplitr
    swap; · iexact H12
    ipureintro; first | rfl | assumption
  isplitl [H13]
  · iexists _; isplitr
    swap; · iexact H13
    ipureintro; first | rfl | assumption
  isplitl [H14]
  · iexists _; isplitr
    swap; · iexact H14
    ipureintro
    exact hL
  iexists _; isplitr
  swap; · iexact H15
  ipureintro
  exact hA

set_option maxHeartbeats 2000000 in
/-- The tile left over by the pairs; what the first head's output is made of. -/
theorem part21_spec (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole)
    (v155 v179 : BitVec 32) (x2 : Vec F S4096x256 .bf16) (S : Vec F S2x8x1024x512 .f32) (m0 m1 : Vec F S1x1024x128 .f32) (x3 x4 x5 x6 : Vec F S1x64 .f32) (K : (Σ' (v209 : FVec F S1x1 .f32) (v211 : FVec F S1024x128 .f32), FVec F S1024x1 .f32) → sProp 𝕄) :
    iprop(owns (c : Thread nD τ) arg5 fullShare (x2) ∗ owns (c : Thread nD τ) arg6 fullShare (x3) ∗ owns (c : Thread nD τ) arg7 fullShare (x4) ∗ owns (c : Thread nD τ) arg8 fullShare (x5) ∗ owns (c : Thread nD τ) arg9 fullShare (x6) ∗ owns (c : Thread nD τ) arg12 fullShare (S) ∗ owns (c : Thread nD τ) arg13 fullShare (both m0 m1) ∗ owns (c : Thread nD τ) arg14 fullShare (both (sums (tileAt S 0) m0 (2 * (((i 2).val + 1) / 2))) (sums (tileAt S 1) m1 (2 * (((i 2).val + 1) / 2)))) ∗ owns (c : Thread nD τ) arg15 fullShare (both (weighted (tileAt S 0) m0 x2 0 (2 * (((i 2).val + 1) / 2))) (weighted (tileAt S 1) m1 x2 1 (2 * (((i 2).val + 1) / 2)))) ∗ (iprop((owns (c : Thread nD τ) arg5 fullShare (x2) ∗ owns (c : Thread nD τ) arg6 fullShare (x3) ∗ owns (c : Thread nD τ) arg7 fullShare (x4) ∗ owns (c : Thread nD τ) arg8 fullShare (x5) ∗ owns (c : Thread nD τ) arg9 fullShare (x6) ∗ owns (c : Thread nD τ) arg12 fullShare (S) ∗ owns (c : Thread nD τ) arg13 fullShare (both m0 m1) ∗ owns (c : Thread nD τ) arg14 fullShare (both (sums (tileAt S 0) m0 ((i 2).val + 1)) (sums (tileAt S 1) m1 ((i 2).val + 1))) ∗ owns (c : Thread nD τ) arg15 fullShare (both (weighted (tileAt S 0) m0 x2 0 ((i 2).val + 1)) (weighted (tileAt S 1) m1 x2 1 ((i 2).val + 1)))) -∗ K ⟨k0_pay143 x3 x4 x5 x6, k0_pay144 (weighted (tileAt S 0) m0 x2 0 ((i 2).val + 1)), k0_pay145 (sums (tileAt S 0) m0 ((i 2).val + 1))⟩)))
      ⊢ wp frame (wpE (defs₀ (F := F)) Variants.none c none) Set.univ (k0_part21 i arg3 harg3 arg4 harg4 arg5 harg5 arg6 harg6 arg7 harg7 arg8 harg8 arg9 harg9 arg10 harg10 arg11 harg11 arg12 harg12 arg13 harg13 arg14 harg14 arg15 harg15 v155 v179) K := by
  simp only [k0_part21_eq_skeleton]; unfold k0_part21_skel
  simp only [k0_part14_eq_skeleton, k0_part15_eq_skeleton]
  unfold owns
  iintro ⟨⟨%f5, %hf5, H5⟩, ⟨%f6, %hf6, H6⟩, ⟨%f7, %hf7, H7⟩, ⟨%f8, %hf8, H8⟩, ⟨%f9, %hf9, H9⟩, ⟨%f12, %hf12, H12⟩, ⟨%f13, %hf13, H13⟩, ⟨%f14, %hL, H14⟩, ⟨%f15, %hA, H15⟩, Hk⟩
  subst hf5 hf6 hf7 hf8 hf9 hf12
  have hi : (i 2).val < 8 := (i 2).isLt
  by_cases h2 : k0_cond2 i = 1#1
  · have hev := (odd_sums i).mp h2
    rw [show 2 * (((i 2).val + 1) / 2) = (i 2).val by omega] at hL hA
    have ho42 : k0_off42 i = ![512 * (i 2).val, 128 * 0] := k0_off42_eq i
    have ho44 : k0_off44 i = ![512 * (i 2).val, 128 * 1] := k0_off44_eq i
    sl_exec
    sl_step
    sl_unfold_run_names
    rw [load_ktile arg5.view f5 0 (i 2).val (by omega) (by omega) ho42, load_ktile arg5.view f5 1 (i 2).val (by omega) (by omega) ho44,
      load_tile arg12.view f12 0 (i 2).val (by omega) (by omega) (k0_off41_eq i), load_tile arg12.view f12 1 (i 2).val (by omega) (by omega) (k0_off43_eq i),
      load_first _ _ _ _ hf13, load_second _ _ _ _ hf13, load_first _ _ _ _ hL, load_second _ _ _ _ hL, load_first _ _ _ _ hA, load_second _ _ _ _ hA]
    rw [reload_first_past arg15.view, reload_first arg15.view, reload_first_past arg14.view, reload_first arg14.view,
      View.readAt_full, View.readAt_full, View.readAt_full, View.readAt_full, ← sums_next, ← weighted_next]
    iapply Hk
    isplitl [H5]
    · iexists _; isplitr
      swap; · iexact H5
      ipureintro; first | rfl | assumption
    isplitl [H6]
    · iexists _; isplitr
      swap; · iexact H6
      ipureintro; first | rfl | assumption
    isplitl [H7]
    · iexists _; isplitr
      swap; · iexact H7
      ipureintro; first | rfl | assumption
    isplitl [H8]
    · iexists _; isplitr
      swap; · iexact H8
      ipureintro; first | rfl | assumption
    isplitl [H9]
    · iexists _; isplitr
      swap; · iexact H9
      ipureintro; first | rfl | assumption
    isplitl [H12]
    · iexists _; isplitr
      swap; · iexact H12
      ipureintro; first | rfl | assumption
    isplitl [H13]
    · iexists _; isplitr
      swap; · iexact H13
      ipureintro; first | rfl | assumption
    isplitl [H14]
    · iexists _; isplitr
      swap; · iexact H14
      ipureintro
      rw [store_second _ _ _ _ _ _ _ (store_first _ _ [] _ _ _ _ hL), sums_next, sums_next]; rfl
    iexists _; isplitr
    swap; · iexact H15
    ipureintro
    rw [store_second _ _ _ _ _ _ _ (store_first _ _ [] _ _ _ _ hA), weighted_next, weighted_next]; rfl
  · have hod : ¬ (i 2).val % 2 = 0 := fun h => h2 ((odd_sums i).mpr h)
    rw [show 2 * (((i 2).val + 1) / 2) = (i 2).val + 1 by omega] at hL hA
    rw [dif_neg h2]
    sl_exec
    sl_step
    sl_unfold_run_names
    rw [load_first _ _ _ _ hL, load_first _ _ _ _ hA, View.readAt_full, View.readAt_full, View.readAt_full, View.readAt_full]
    iapply Hk
    isplitl [H5]
    · iexists _; isplitr
      swap; · iexact H5
      ipureintro; first | rfl | assumption
    isplitl [H6]
    · iexists _; isplitr
      swap; · iexact H6
      ipureintro; first | rfl | assumption
    isplitl [H7]
    · iexists _; isplitr
      swap; · iexact H7
      ipureintro; first | rfl | assumption
    isplitl [H8]
    · iexists _; isplitr
      swap; · iexact H8
      ipureintro; first | rfl | assumption
    isplitl [H9]
    · iexists _; isplitr
      swap; · iexact H9
      ipureintro; first | rfl | assumption
    isplitl [H12]
    · iexists _; isplitr
      swap; · iexact H12
      ipureintro; first | rfl | assumption
    isplitl [H13]
    · iexists _; isplitr
      swap; · iexact H13
      ipureintro; first | rfl | assumption
    isplitl [H14]
    · iexists _; isplitr
      swap; · iexact H14
      ipureintro
      exact hL
    iexists _; isplitr
    swap; · iexact H15
    ipureintro
    exact hA

end Cert.Proof.AttnIdeal
-- ==== Proof.AttnIdeal.Output.lean ====
/- The two heads' outputs side by side. -/
module

public import proofs.«01_k».proof.Proof.AttnIdeal.Places
public import proofs.«01_k».proof.Proof.AttnIdeal.Tiles
public import proofs.«01_k».proof.Proof.Gen.KernelIdeal.Launch
public import Idealize.ShloMosaic.Lib.Exec
public import Idealize.ShloMosaic.Lib.Tactic

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable {F : FTy → Type} [FloatOps F] [Named F]
local notation "𝕄" => MT nD τ sig Unit (Elt F) ℕ (UR sig nD τ) ℕ
/-- Two heads' outputs side by side. -/
def besides {α : Type} (a b : S512x128.Idx → α) : S512x256.Idx → α := fun y =>
  if h : (y 1).val < 128 then a fun ax => ⟨(![(y 0).val, (y 1).val] : Fin 2 → ℕ) ax, by
      match ax with
      | ⟨0, _⟩ => exact (y 0).isLt
      | ⟨1, _⟩ => exact h⟩
  else b fun ax => ⟨(![(y 0).val, (y 1).val - 128] : Fin 2 → ℕ) ax, by
      match ax with
      | ⟨0, _⟩ => exact (y 0).isLt
      | ⟨1, _⟩ => have h1 : (y 1).val < 256 := (y 1).isLt
                  show (y 1).val - 128 < 128; omega⟩

/-- The second head's half of an output. -/
def rightHalf {α : Type} (x : S512x256.Idx → α) : S512x128.Idx → α := fun y =>
  x fun ax => ⟨(![(y 0).val, 128 + (y 1).val] : Fin 2 → ℕ) ax, by
    match ax with
    | ⟨0, _⟩ => exact (y 0).isLt
    | ⟨1, _⟩ => have h1 : (y 1).val < 128 := (y 1).isLt
                show 128 + (y 1).val < 256; omega⟩

/-- Putting the first head's half leaves the other half. -/
theorem put_left {α : Type} (x : S512x256.Idx → α) (w : ((ax : Fin 2) → Fin (S512x128.size ax)) → α) :
    VecWindow.put (s := S512x256) x ![0, 0] S512x128.size w = besides w (rightHalf x) := by
  funext y
  have h0 : (y 0).val < 512 := (y 0).isLt
  have h1 : (y 1).val < 256 := (y 1).isLt
  unfold VecWindow.put besides
  by_cases e : (y 1).val < 128
  · rw [dif_pos e, dif_pos (fun ax => by
      match ax with
      | ⟨0, _⟩ => show 0 ≤ (y 0).val ∧ (y 0).val < 0 + 512; omega
      | ⟨1, _⟩ => show 0 ≤ (y 1).val ∧ (y 1).val < 0 + 128; omega)]
    refine congrArg w (funext fun ax => Fin.ext ?_)
    match ax with
    | ⟨0, _⟩ => rfl
    | ⟨1, _⟩ => rfl
  · rw [dif_neg e, dif_neg (fun h => by have := (h 1).2; change (y 1).val < 0 + 128 at this; omega)]
    refine congrArg x (funext fun ax => Fin.ext ?_)
    match ax with
    | ⟨0, _⟩ => rfl
    | ⟨1, _⟩ => show (y 1).val = 128 + ((y 1).val - 128); omega

/-- Putting the second head's half replaces it. -/
theorem put_right {α : Type} (a b : S512x128.Idx → α) (w : ((ax : Fin 2) → Fin (S512x128.size ax)) → α) :
    VecWindow.put (s := S512x256) (besides a b) ![0, 128] S512x128.size w = besides a w := by
  funext y
  have h0 : (y 0).val < 512 := (y 0).isLt
  have h1 : (y 1).val < 256 := (y 1).isLt
  unfold VecWindow.put besides
  by_cases e : (y 1).val < 128
  · rw [dif_neg (fun h => by have := (h 1).1; change 128 ≤ (y 1).val at this; omega), dif_pos e, dif_pos e]
  · rw [dif_pos (fun ax => by
      match ax with
      | ⟨0, _⟩ => show 0 ≤ (y 0).val ∧ (y 0).val < 0 + 512; omega
      | ⟨1, _⟩ => show 128 ≤ (y 1).val ∧ (y 1).val < 128 + 128; omega), dif_neg e]
    refine congrArg w (funext fun ax => Fin.ext ?_)
    match ax with
    | ⟨0, _⟩ => rfl
    | ⟨1, _⟩ => rfl

/-- The first head's output stored; what the second head's is made of. -/
theorem part22_spec (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole)
    (v209 : FVec F S1x1 .f32) (v211 : FVec F S1024x128 .f32) (v215 : FVec F S1024x1 .f32) (x7 : Vec F S1x128 .f32) (l0 l1 a0 a1 : Vec F S1x1024x128 .f32) (K : (Σ' (v253 : FVec F S512x128 .f32) (v255 : FVec F S1x128 .f32), FVec F S512x128 .f32) → sProp 𝕄) :
    iprop(owns (c : Thread nD τ) arg10 fullShare (x7) ∗ (∃ d, owns (c : Thread nD τ) arg11 fullShare d) ∗ owns (c : Thread nD τ) arg14 fullShare (both l0 l1) ∗ owns (c : Thread nD τ) arg15 fullShare (both a0 a1) ∗ (iprop((owns (c : Thread nD τ) arg10 fullShare (x7) ∗ (∃ r, owns (c : Thread nD τ) arg11 fullShare (besides (k0_pay146 v209 v211 v215 x7) r)) ∗ owns (c : Thread nD τ) arg14 fullShare (both l0 l1) ∗ owns (c : Thread nD τ) arg15 fullShare (both a0 a1)) -∗ K ⟨k0_pay147 v209 a1 l1, k0_pay148 x7, k0_pay149 v209 a1 l1⟩)))
      ⊢ wp frame (wpE (defs₀ (F := F)) Variants.none c none) Set.univ (k0_part22 i arg3 harg3 arg4 harg4 arg5 harg5 arg6 harg6 arg7 harg7 arg8 harg8 arg9 harg9 arg10 harg10 arg11 harg11 arg12 harg12 arg13 harg13 arg14 harg14 arg15 harg15 v209 v211 v215) K := by
  simp only [k0_part22_eq_skeleton]; unfold k0_part22_skel
  unfold owns
  iintro ⟨⟨%f10, %hf10, H10⟩, ⟨%d11, %f11, -, H11⟩, ⟨%f14, %hL, H14⟩, ⟨%f15, %hA, H15⟩, Hk⟩
  subst hf10
  sl_exec
  sl_step
  sl_unfold_run_names
  rw [load_second _ _ _ _ hL, load_second _ _ _ _ hA, View.readAt_full]
  iapply Hk
  isplitl [H10]
  · iexists _; isplitr
    swap; · iexact H10
    ipureintro; first | rfl | assumption
  isplitl [H11]
  · iexists _; iexists _; isplitr
    swap; · iexact H11
    ipureintro
    exact (View.read_writes_cons_put _ _ _ _ [] rfl).trans (put_left _ _)
  isplitl [H14]
  · iexists _; isplitr
    swap; · iexact H14
    ipureintro; first | rfl | assumption
  iexists _; isplitr
  swap; · iexact H15
  ipureintro
  exact hA

end Cert.Proof.AttnIdeal
-- ==== Proof.AttnIdeal.Body.lean ====
/- A grid point of the kernel from its blocks to its output. -/
module

public import proofs.«01_k».proof.Proof.AttnIdeal.Places
public import proofs.«01_k».proof.Proof.AttnIdeal.FirstPass
public import proofs.«01_k».proof.Proof.AttnIdeal.SecondPass
public import proofs.«01_k».proof.Proof.AttnIdeal.Output
public import proofs.«01_k».proof.Proof.Gen.KernelIdeal.Loops
public import proofs.«01_k».proof.Proof.Gen.KernelIdeal.Launch
public import Idealize.ShloMosaic.Lib.Exec
public import Idealize.ShloMosaic.Lib.Tactic

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable {F : FTy → Type} [FloatOps F] [Named F]
local notation "𝕄" => MT nD τ sig Unit (Elt F) ℕ (UR sig nD τ) ℕ
/-- A head's lane sums of the exponentials, over the tiles up to and with the diagonal's. -/
def sumOf (x0 : Vec F S512x256 .bf16) (x1 : Vec F S4096x256 .bf16) (hd i : ℕ) : Vec F S1x1024x128 .f32 :=
  sums (scores (stacked x0 hd) x1 hd i) (rowmax (stacked x0 hd) x1 hd i) (i + 1)

/-- A head's weighted values, over the tiles up to and with the diagonal's. -/
def valueOf (x0 : Vec F S512x256 .bf16) (x1 x2 : Vec F S4096x256 .bf16) (hd i : ℕ) : Vec F S1x1024x128 .f32 :=
  weighted (scores (stacked x0 hd) x1 hd i) (rowmax (stacked x0 hd) x1 hd i) x2 hd (i + 1)

/-- What the body leaves in the output's buffer at query tile `i`. -/
def outAt (i : ℕ) (x0 : Vec F S512x256 .bf16) (x1 x2 : Vec F S4096x256 .bf16) (x3 x4 x5 x6 : Vec F S1x64 .f32) (x7 : Vec F S1x128 .f32) : Vec F S512x256 .bf16 :=
  besides (k0_pay146 (k0_pay143 x3 x4 x5 x6) (k0_pay144 (valueOf x0 x1 x2 0 i)) (k0_pay145 (sumOf x0 x1 0 i)) x7)
    (k0_pay1 (k0_pay147 (k0_pay143 x3 x4 x5 x6) (valueOf x0 x1 x2 1 i) (sumOf x0 x1 1 i)) (k0_pay148 x7)
      (k0_pay149 (k0_pay143 x3 x4 x5 x6) (valueOf x0 x1 x2 1 i) (sumOf x0 x1 1 i)))

attribute [local irreducible] sums weighted both besides scores rowmax

set_option maxHeartbeats 2000000 in
/-- A grid point: the inputs stay, and the output's buffer ends at the two heads' outputs. -/
theorem body_spec (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x256 .bf16) (harg11 : arg11.IsWhole) (arg12 : Memref sig .tc .vmem S2x8x1024x512 .f32) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole)
    (x0 : Vec F S512x256 .bf16) (x1 x2 : Vec F S4096x256 .bf16) (x3 x4 x5 x6 : Vec F S1x64 .f32) (x7 : Vec F S1x128 .f32) (K : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (x3) ∗ owns (c : Thread nD τ) arg7 fullShare (x4) ∗ owns (c : Thread nD τ) arg8 fullShare (x5) ∗ owns (c : Thread nD τ) arg9 fullShare (x6) ∗ owns (c : Thread nD τ) arg10 fullShare (x7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop((owns (c : Thread nD τ) arg3 fullShare (x0) ∗ owns (c : Thread nD τ) arg4 fullShare (x1) ∗ owns (c : Thread nD τ) arg5 fullShare (x2) ∗ owns (c : Thread nD τ) arg6 fullShare (x3) ∗ owns (c : Thread nD τ) arg7 fullShare (x4) ∗ owns (c : Thread nD τ) arg8 fullShare (x5) ∗ owns (c : Thread nD τ) arg9 fullShare (x6) ∗ owns (c : Thread nD τ) arg10 fullShare (x7) ∗ owns (c : Thread nD τ) arg11 fullShare (outAt (i 2).val x0 x1 x2 x3 x4 x5 x6 x7) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩)))
      ⊢ wp frame (wpE (defs₀ (F := F)) Variants.none c none) Set.univ (cc0_diff_attn i arg3 harg3 arg4 harg4 arg5 harg5 arg6 harg6 arg7 harg7 arg8 harg8 arg9 harg9 arg10 harg10 arg11 harg11 arg12 harg12 arg13 harg13 arg14 harg14 arg15 harg15) K := by
  simp only [cc0_diff_attn_eq_skeleton]; unfold cc0_diff_attn_skel
  iintro ⟨H3, H4, H5, H6, H7, H8, H9, H10, ⟨%d11, H11⟩, ⟨%d12, H12⟩, ⟨%d13, H13⟩, ⟨%d14, H14⟩, ⟨%d15, H15⟩, Hk⟩
  rw [wp_bind]
  iapply (part16_spec c i arg3 harg3 arg4 harg4 arg5 harg5 arg6 harg6 arg7 harg7 arg8 harg8 arg9 harg9 arg10 harg10 arg11 harg11 arg12 harg12 arg13 harg13 arg14 harg14 arg15 harg15 x0 x1 _)
  isplitl [H3]; · iexact H3
  isplitl [H13]; · iexists _; iexact H13
  iintro %arg2 %c2_i32 %v26 %v31 %v36 ⟨H3, H13⟩
  dsimp only
  rw [wp_bind]
  iapply (part17_spec c i arg3 harg3 arg4 harg4 arg5 harg5 arg6 harg6 arg7 harg7 arg8 harg8 arg9 harg9 arg10 harg10 arg11 harg11 arg12 harg12 arg13 harg13 arg14 harg14 arg15 harg15 arg2 (stacked x0 0) (stacked x0 1) c2_i32 v26 v31 v36 x1 _)
  isplitl [H4]; · iexact H4
  isplitl [H12]; · iexists _; iexact H12
  isplitl [H13]; · iexact H13
  iintro %v62 ⟨H4, %S, H12, H13, %hS⟩
  dsimp only
  rw [wp_bind]
  iapply (part18_spec c i arg3 harg3 arg4 harg4 arg5 harg5 arg6 harg6 arg7 harg7 arg8 harg8 arg9 harg9 arg10 harg10 arg11 harg11 arg12 harg12 arg13 harg13 arg14 harg14 arg15 harg15 arg2 (stacked x0 0) (stacked x0 1) v62 x1 S hS _)
  isplitl [H4]; · iexact H4
  isplitl [H12]; · iexact H12
  isplitl [H13]; · iexact H13
  iintro ⟨H4, %S', H12, H13, %hS'⟩
  dsimp only
  rw [wp_bind]
  iapply (part19_spec c i arg3 harg3 arg4 harg4 arg5 harg5 arg6 harg6 arg7 harg7 arg8 harg8 arg9 harg9 arg10 harg10 arg11 harg11 arg12 harg12 arg13 harg13 arg14 harg14 arg15 harg15 (stacked x0 0) (stacked x0 1) x1 S' hS'.1 hS'.2 _)
  isplitl [H12]; · iexact H12
  isplitl [H13]; · iexact H13
  iintro ⟨%T, H12, H13, %hT⟩
  dsimp only
  rw [wp_bind]
  iapply (part20_spec c i arg3 harg3 arg4 harg4 arg5 harg5 arg6 harg6 arg7 harg7 arg8 harg8 arg9 harg9 arg10 harg10 arg11 harg11 arg12 harg12 arg13 harg13 arg14 harg14 arg15 harg15 arg2 x2 T (rowmax (stacked x0 0) x1 0 (i 2).val) (rowmax (stacked x0 1) x1 1 (i 2).val) _)
  isplitl [H5]; · iexact H5
  isplitl [H12]; · iexact H12
  isplitl [H13]; · iexact H13
  isplitl [H14]; · iexists _; iexact H14
  isplitl [H15]; · iexists _; iexact H15
  iintro %v155 %v179 ⟨H5, H12, H13, H14, H15⟩
  dsimp only
  rw [wp_bind]
  iapply (part21_spec c i arg3 harg3 arg4 harg4 arg5 harg5 arg6 harg6 arg7 harg7 arg8 harg8 arg9 harg9 arg10 harg10 arg11 harg11 arg12 harg12 arg13 harg13 arg14 harg14 arg15 harg15 v155 v179 x2 T (rowmax (stacked x0 0) x1 0 (i 2).val) (rowmax (stacked x0 1) x1 1 (i 2).val) x3 x4 x5 x6 _)
  isplitl [H5]; · iexact H5
  isplitl [H6]; · iexact H6
  isplitl [H7]; · iexact H7
  isplitl [H8]; · iexact H8
  isplitl [H9]; · iexact H9
  isplitl [H12]; · iexact H12
  isplitl [H13]; · iexact H13
  isplitl [H14]; · iexact H14
  isplitl [H15]; · iexact H15
  iintro ⟨H5, H6, H7, H8, H9, H12, H13, H14, H15⟩
  rw [sums_congr (tileAt T 0) (scores (stacked x0 0) x1 0 (i 2).val) _ _ fun j hj => (hT j (Nat.le_of_lt_succ hj)).1,
    sums_congr (tileAt T 1) (scores (stacked x0 1) x1 1 (i 2).val) _ _ fun j hj => (hT j (Nat.le_of_lt_succ hj)).2,
    weighted_congr (tileAt T 0) (scores (stacked x0 0) x1 0 (i 2).val) _ _ _ _ fun j hj => (hT j (Nat.le_of_lt_succ hj)).1,
    weighted_congr (tileAt T 1) (scores (stacked x0 1) x1 1 (i 2).val) _ _ _ _ fun j hj => (hT j (Nat.le_of_lt_succ hj)).2]
  dsimp only
  rw [wp_bind]
  iapply (part22_spec c i arg3 harg3 arg4 harg4 arg5 harg5 arg6 harg6 arg7 harg7 arg8 harg8 arg9 harg9 arg10 harg10 arg11 harg11 arg12 harg12 arg13 harg13 arg14 harg14 arg15 harg15 _ _ _ x7 _ _ _ _ _)
  isplitl [H10]; · iexact H10
  isplitl [H11]; · iexists _; iexact H11
  isplitl [H14]; · iexact H14
  isplitl [H15]; · iexact H15
  iintro ⟨H10, ⟨%r, H11⟩, H14, H15⟩
  dsimp only
  unfold owns
  icases H11 with ⟨%f11, %hf11, H11⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr
    swap; · iexact H11
    ipureintro
    refine (View.read_writes_cons_put _ _ _ _ [] rfl).trans ?_
    rw [View.writes_nil, hf11, put_right]
    rfl
  isplitl [H12]; · iexists _; iexact H12
  isplitl [H13]; · iexists _; iexact H13
  isplitl [H14]; · iexists _; iexact H14
  iexists _; iexact H15

end Cert.Proof.AttnIdeal
-- ==== Proof.AttnIdeal.Frame.lean ====
/- The program's run: the arguments stay, and the output's array is written block by block. -/
module

public import proofs.«01_k».proof.Proof.AttnIdeal.Places
public import proofs.«01_k».proof.Proof.AttnIdeal.Body
public import proofs.«01_k».proof.Proof.Gen.KernelIdeal.Frame
public import proofs.«01_k».proof.Proof.Gen.KernelIdeal.Launch
public import Idealize.ShloMosaic.Lib.Pipeline.FrameBody
public import Idealize.ShloMosaic.Lib.Claim
public import Idealize.ShloMosaic.Lib.Exec
public import Idealize.ShloMosaic.Lib.Tactic

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable {F : FTy → Type} [FloatOps F] [Named F]
local notation "𝕄" => MT nD τ sig Unit (Elt F) ℕ (UR sig nD τ) ℕ
open Idealize.ShloMosaic.Pipeline (Dat Cfg Window BodyObligation cellOf)

variable (m : (ℓ : Loc nD τ sig) → Buf (Elt F) ℓ) (ρ : Dev nD → PrngReg)

/-- The region's data: the arrays as it finds them, each input's block left as it is, and the output's buffer at the two heads' outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt (grid0.coords t 2).val (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The data's arrays are those the region finds. -/
theorem A_eq (c : Dev nD) (w : Fin cfg0.W) : (dats m 0 c).A w = V m c (Pipeline.arrRef spec0 w) := by
  dsimp only [dats]

/-- Input 0's block after a point. -/
theorem after_0 (c : Dev nD) (t : Fin cfg0.N) : (dats m 0 c).after 0 t = iblk m c 0 t := by dsimp only [dats]
/-- Input 1's block after a point. -/
theorem after_1 (c : Dev nD) (t : Fin cfg0.N) : (dats m 0 c).after 1 t = iblk m c 1 t := by dsimp only [dats]
/-- Input 2's block after a point. -/
theorem after_2 (c : Dev nD) (t : Fin cfg0.N) : (dats m 0 c).after 2 t = iblk m c 2 t := by dsimp only [dats]
/-- Input 3's block after a point. -/
theorem after_3 (c : Dev nD) (t : Fin cfg0.N) : (dats m 0 c).after 3 t = iblk m c 3 t := by dsimp only [dats]
/-- Input 4's block after a point. -/
theorem after_4 (c : Dev nD) (t : Fin cfg0.N) : (dats m 0 c).after 4 t = iblk m c 4 t := by dsimp only [dats]
/-- Input 5's block after a point. -/
theorem after_5 (c : Dev nD) (t : Fin cfg0.N) : (dats m 0 c).after 5 t = iblk m c 5 t := by dsimp only [dats]
/-- Input 6's block after a point. -/
theorem after_6 (c : Dev nD) (t : Fin cfg0.N) : (dats m 0 c).after 6 t = iblk m c 6 t := by dsimp only [dats]
/-- Input 7's block after a point. -/
theorem after_7 (c : Dev nD) (t : Fin cfg0.N) : (dats m 0 c).after 7 t = iblk m c 7 t := by dsimp only [dats]
/-- The output's buffer after a point. -/
theorem after_8 (c : Dev nD) (t : Fin cfg0.N) : (dats m 0 c).after 8 t = outAt (grid0.coords t 2).val (iblk m c 0 t) (iblk m c 1 t) (iblk m c 2 t) (iblk m c 3 t) (iblk m c 4 t) (iblk m c 5 t) (iblk m c 6 t) (iblk m c 7 t) := by dsimp only [dats]

/-- Input 0's block before a point. -/
theorem before_0 (c : Dev nD) (t : Fin cfg0.N) (d) : (dats m 0 c).before 0 t d = iblk m c 0 t :=
  before0_0_of m (dats m 0 c) (A_eq m c 0) (after_0 m c) t d
/-- Input 1's block before a point. -/
theorem before_1 (c : Dev nD) (t : Fin cfg0.N) (d) : (dats m 0 c).before 1 t d = iblk m c 1 t :=
  before0_1_of m (dats m 0 c) (A_eq m c 1) (after_1 m c) t d
/-- Input 2's block before a point. -/
theorem before_2 (c : Dev nD) (t : Fin cfg0.N) (d) : (dats m 0 c).before 2 t d = iblk m c 2 t :=
  before0_2_of m (dats m 0 c) (A_eq m c 2) (after_2 m c) t d
/-- Input 3's block before a point. -/
theorem before_3 (c : Dev nD) (t : Fin cfg0.N) (d) : (dats m 0 c).before 3 t d = iblk m c 3 t :=
  before0_3_of m (dats m 0 c) (A_eq m c 3) (after_3 m c) t d
/-- Input 4's block before a point. -/
theorem before_4 (c : Dev nD) (t : Fin cfg0.N) (d) : (dats m 0 c).before 4 t d = iblk m c 4 t :=
  before0_4_of m (dats m 0 c) (A_eq m c 4) (after_4 m c) t d
/-- Input 5's block before a point. -/
theorem before_5 (c : Dev nD) (t : Fin cfg0.N) (d) : (dats m 0 c).before 5 t d = iblk m c 5 t :=
  before0_5_of m (dats m 0 c) (A_eq m c 5) (after_5 m c) t d
/-- Input 6's block before a point. -/
theorem before_6 (c : Dev nD) (t : Fin cfg0.N) (d) : (dats m 0 c).before 6 t d = iblk m c 6 t :=
  before0_6_of m (dats m 0 c) (A_eq m c 6) (after_6 m c) t d
/-- Input 7's block before a point. -/
theorem before_7 (c : Dev nD) (t : Fin cfg0.N) (d) : (dats m 0 c).before 7 t d = iblk m c 7 t :=
  before0_7_of m (dats m 0 c) (A_eq m c 7) (after_7 m c) t d

/-- What a point's body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What a point's body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at a point: the scratch memory is at anything before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = iprop(Pipeline.scopedRest (Ix := Unit) (Name := ℕ) (U := UR sig nD τ) (Lvl := ℕ) (Val := Elt F) spec0 c ∗ ∃ r, prngReg c r) from rfl,
    scopedRest0_eq]
  simp only [← owns_whole]
  iintro ⟨⟨⟨⟨%g12, H12⟩, ⟨%g13, H13⟩, ⟨%g14, H14⟩, ⟨%g15, H15⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_spec c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H12, H13, H14, H15⟩
  isplitl [Hr H12 H13 H14 H15]
  · isplitr [Hr]
    · isplitl [H12]; · iexact H12
      isplitl [H13]; · iexact H13
      isplitl [H14]; · iexact H14
      iexact H15
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with the arrays at what the points wrote and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arrays at what the points wrote. -/
theorem run_arrays : θ_run defs (onTc (τ := τ) (main (F := F))) (s₀ m ρ) (Pipeline.FramePost cfgs (dats m) 0 (V m)) :=
  (θ_run defs _ _).mono (fun _ h => h.1) (run_quiescent m ρ)

/-- Every run leaves the arguments as launched and ends with every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_arrays m ρ)) ((θ_run defs _ _).mono (fun _ h => h.2) (run_quiescent m ρ))

end Cert.Proof.AttnIdeal
-- ==== Proof.AttnValue.Softmax.lean ====
/- The softmax of one query over the keys up to it, as a real number: it does not depend on what the scores are taken
   less, nor on how many masked keys the sums run over. And the few facts about extended reals that carry it. -/
module

public import Idealize.ShloMosaic.PureOps.Ideal
public import Mathlib.Data.EReal.Operations
public import Mathlib.Analysis.SpecialFunctions.Pow.Real

@[expose] public section

noncomputable section

namespace Cert.Proof.AttnValue

open Idealize.ShloMosaic

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a key's score, nothing for a key after the query. -/
def weightOf (p : ℕ) (A : ℕ → ℝ) (μ : ℝ) (k : ℕ) : ℝ := if k ≤ p then Real.exp (A k - μ) else 0

/-- The values averaged by the softmax of the scores of the keys up to the query. -/
def att (p : ℕ) (A v : ℕ → ℝ) : ℝ :=
  (∑ k ∈ Finset.range (p + 1), Real.exp (A k) * v k) / ∑ k ∈ Finset.range (p + 1), Real.exp (A k)

/-- Sums against the weights end at the query. -/
theorem sum_weightOf (N p : ℕ) (hp : p < N) (A v : ℕ → ℝ) (μ : ℝ) :
    ∑ k ∈ Finset.range N, weightOf p A μ k * v k = Real.exp (-μ) * ∑ k ∈ Finset.range (p + 1), Real.exp (A k) * v k := by
  rw [Finset.mul_sum, ← Finset.sum_subset (Finset.range_subset_range.2 hp : Finset.range (p + 1) ⊆ Finset.range N)]
  · refine Finset.sum_congr rfl fun k hk => ?_
    have : k ≤ p := Nat.le_of_lt_succ (Finset.mem_range.1 hk)
    rw [weightOf, if_pos this, sub_eq_add_neg, Real.exp_add]
    ring
  · intro k _ hk
    have : ¬ k ≤ p := fun h => hk (Finset.mem_range.2 (Nat.lt_succ_of_le h))
    rw [weightOf, if_neg this, zero_mul]

/-- The weights' sum is positive. -/
theorem weightOf_pos (N p : ℕ) (hp : p < N) (A : ℕ → ℝ) (μ : ℝ) : 0 < ∑ k ∈ Finset.range N, weightOf p A μ k := by
  have h := sum_weightOf N p hp A (fun _ => 1) μ
  simp only [mul_one] at h
  rw [h]
  exact mul_pos (Real.exp_pos _) (Finset.sum_pos (fun _ _ => Real.exp_pos _) ⟨0, Finset.mem_range.2 (Nat.succ_pos p)⟩)

/-- The average by the weights is the average by the softmax. -/
theorem div_weightOf (N p : ℕ) (hp : p < N) (A v : ℕ → ℝ) (μ : ℝ) :
    (∑ k ∈ Finset.range N, weightOf p A μ k * v k) / (∑ k ∈ Finset.range N, weightOf p A μ k) = att p A v := by
  have h := sum_weightOf N p hp A (fun _ => 1) μ
  simp only [mul_one] at h
  rw [h, sum_weightOf N p hp A v μ, att]
  exact mul_div_mul_left _ _ (Real.exp_pos _).ne'

/-- A score in base two, less a real number. -/
theorem exp2_sub (a m : ℝ) : Ideal.exp2 (((a * (Real.log 2)⁻¹ : ℝ) : EReal) - (m : EReal)) = ((Real.exp (a - m * Real.log 2) : ℝ) : EReal) := by
  have hl : Real.log 2 ≠ 0 := (Real.log_pos (by norm_num)).ne'
  rw [← EReal.coe_sub]
  refine congrArg (fun x : ℝ => (x : EReal)) ?_
  show (2 : ℝ) ^ (a * (Real.log 2)⁻¹ - m) = _
  rw [Real.rpow_def_of_pos (by norm_num)]
  refine congrArg Real.exp ?_
  field_simp

/-- A masked score in base two, less a real number. -/
theorem exp2_bot_sub (m : ℝ) : Ideal.exp2 ((⊥ : EReal) - (m : EReal)) = ((0 : ℝ) : EReal) := by
  rw [EReal.bot_sub]; exact Ideal.exp2_bot

/-- The quotient of two reals. -/
theorem div_real (a b : ℝ) (hb : b ≠ 0) : Ideal.div (a : EReal) (b : EReal) = ((a / b : ℝ) : EReal) := by
  rw [Ideal.div_coe hb, ← EReal.coe_mul, mul_one_div]

end Cert.Proof.AttnValue

end
-- ==== Proof.AttnValue.Head.lean ====
/- What one head's two passes leave at a grid point, as real numbers: the scores, the row maxima, the sums of the
   exponentials, the weighted values, and their quotient. -/
module

public import proofs.«01_k».proof.Proof.AttnIdeal.Tiles
public import proofs.«01_k».proof.Proof.AttnValue.Softmax
public import Idealize.ShloMosaic.Lib.Pipeline.ValueKit
public import Idealize.ShloMosaic.Lib.WordCmp

@[expose] public section

set_option maxRecDepth 16384

noncomputable section

namespace Cert.Proof.AttnValue

open Cert.KernelIdeal Cert.KernelIdeal.Gen Cert.Proof.AttnIdeal
open Idealize.ShloMosaic Idealize.ShloMosaic.WordCmp

/-- A tile's scores, in base two. -/
theorem plain_at (q : FVec Ideal S1024x128 .bf16) (k : Vec Ideal S512x128 .bf16) (r : Fin 1024) (n : Fin 512) :
    k0_pay2 q k (ix2 r n) = (∑ d : Fin 128, q (ix2 r d) * k (ix2 n d)) * (((Real.log 2)⁻¹ : ℝ) : EReal) := by
  pointwise [k0_pay2]
  rfl

/-- The diagonal tile's scores, in base two. -/
theorem masked_at (q : FVec Ideal S1024x128 .bf16) (k : Vec Ideal S512x128 .bf16) (r : Fin 1024) (n : Fin 512) :
    k0_pay133 q k (ix2 r n) = if n.val ≤ r.val % 512 then (∑ d : Fin 128, q (ix2 r d) * k (ix2 n d)) * (((Real.log 2)⁻¹ : ℝ) : EReal) else ⊥ := by
  pointwise [k0_pay133]
  have hr := r.isLt
  have hn := n.isLt
  have e : Scalar.select (IntOp.cmpi .sge (BitVec.ofNat 32 r.val) 512#32) (IntOp.subi (BitVec.ofNat 32 r.val) 512#32) (BitVec.ofNat 32 r.val)
      = BitVec.ofNat 32 (r.val % 512) := by
    rw [cmpi_sge_ofNat (by omega) (by omega), select_ofBool]
    by_cases h : 512 ≤ r.val
    · simp only [h, decide_true, if_true]
      apply BitVec.eq_of_toNat_eq
      show ((BitVec.ofNat 32 r.val) - 512#32).toNat = _
      rw [BitVec.toNat_sub]
      simp only [BitVec.toNat_ofNat]
      omega
    · simp only [h, decide_false]
      rw [Nat.mod_eq_of_lt (by omega)]
      rfl
  rw [e, cmpi_sle_ofNat (by omega) (by omega), select_ofBool]
  by_cases h : n.val ≤ r.val % 512
  · simp only [h, decide_true, if_true]; rfl
  · simp only [h, decide_false]; rfl

/-- A step of the lane maxima. -/
theorem lanes_at (s : FVec Ideal S1024x512 .f32) (l : Vec Ideal S1x1024x128 .f32) (r : Fin 1024) (n : Fin 128) :
    k0_pay7 s l (ix3 0 r n) = max (l (ix3 0 r n)) (max (max (max (s (ix2 r ⟨n.val, by omega⟩)) (s (ix2 r ⟨128 + n.val, by omega⟩)))
      (s (ix2 r ⟨256 + n.val, by omega⟩))) (s (ix2 r ⟨384 + n.val, by omega⟩))) := by
  pointwise [k0_pay7]

/-- The row maxima. -/
theorem rowmax_at (l : Vec Ideal S1x1024x128 .f32) (r : Fin 1024) (n : Fin 128) :
    k0_pay136 l (ix3 0 r n) = Finset.fold max (Ideal.ofBits .f32 4286578688#32) (fun x : Fin 128 => l (ix3 0 r x)) Finset.univ := by
  pointwise [k0_pay136]

/-- A step of the lane sums. -/
theorem sums_at (s : FVec Ideal S1x1x1024x512 .f32) (m l : Vec Ideal S1x1024x128 .f32) (r : Fin 1024) (n : Fin 128) :
    k0_pay31 s m l (ix3 0 r n) = l (ix3 0 r n) +
      (Ideal.exp2 (k0_pay25 (F := Ideal) s (ix2 r ⟨n.val, by omega⟩) - m (ix3 0 r n)) + Ideal.exp2 (k0_pay25 (F := Ideal) s (ix2 r ⟨128 + n.val, by omega⟩) - m (ix3 0 r n))
        + Ideal.exp2 (k0_pay25 (F := Ideal) s (ix2 r ⟨256 + n.val, by omega⟩) - m (ix3 0 r n)) + Ideal.exp2 (k0_pay25 (F := Ideal) s (ix2 r ⟨384 + n.val, by omega⟩) - m (ix3 0 r n))) := by
  pointwise [k0_pay31, k0_pay30, k0_pay29, k0_pay28, k0_pay27, k0_pay26]
  rfl

/-- A step of the weighted values, at a row whose maximum is the same in every lane. -/
theorem weighted_at (s : FVec Ideal S1x1x1024x512 .f32) (m l : Vec Ideal S1x1024x128 .f32) (v : Vec Ideal S512x128 .bf16) (r : Fin 1024)
    (d : Fin 128) (M : EReal) (hm : ∀ c : Fin 128, m (ix3 0 r c) = M) :
    k0_pay33 (k0_pay32 s m l v) (ix3 0 r d) = l (ix3 0 r d) + ∑ x : Fin 512, Ideal.exp2 (k0_pay25 (F := Ideal) s (ix2 r x) - M) * v (ix2 x d) := by
  pointwise [k0_pay33, k0_pay32, k0_pay30, k0_pay29, k0_pay28, k0_pay27, k0_pay26]
  refine congrArg (l (ix3 0 r d) + ·) (Finset.sum_congr rfl fun x _ => congrArg (· * v (ix2 x d)) ?_)
  have hx := x.isLt
  by_cases h1 : x.val < 128
  · refine (dif_pos h1).trans ?_
    rw [hm]; rfl
  refine (dif_neg h1).trans ?_
  by_cases h2 : x.val - 128 < 128
  · refine (dif_pos h2).trans ?_
    rw [hm, show (⟨128 + (x.val - 128), by omega⟩ : Fin 512) = x from Fin.ext (by simp only []; omega)]; rfl
  refine (dif_neg h2).trans ?_
  by_cases h3 : x.val - 128 - 128 < 128
  · refine (dif_pos h3).trans ?_
    rw [hm, show (⟨256 + (x.val - 128 - 128), by omega⟩ : Fin 512) = x from Fin.ext (by simp only []; omega)]; rfl
  refine (dif_neg h3).trans ?_
  rw [hm, show (⟨384 + (x.val - 128 - 128 - 128), by omega⟩ : Fin 512) = x from Fin.ext (by simp only []; omega)]; rfl

/-- The scores kept for the second pass, below the diagonal and on it. -/
theorem kept_below (q : FVec Ideal S1024x128 .bf16) (k : Vec Ideal S512x128 .bf16) (r : Fin 1024) (n : Fin 512) :
    k0_pay25 (k0_pay3 q k) (ix2 r n) = k0_pay2 q k (ix2 r n) := by
  pointwise [k0_pay25, k0_pay3]

theorem kept_diagonal (s : FVec Ideal S1024x512 .f32) (r : Fin 1024) (n : Fin 512) :
    k0_pay25 (k0_pay134 s) (ix2 r n) = s (ix2 r n) := by
  pointwise [k0_pay25, k0_pay134]

section Head

variable (q : FVec Ideal S1024x128 .bf16) (x v : Vec Ideal S4096x256 .bf16) (hd i : ℕ) (r : Fin 1024) (A : ℕ → ℝ)
  (hA : ∀ j ≤ i, ∀ n : Fin 512, ∑ d : Fin 128, q (ix2 r d) * ktile x hd j (ix2 n d) = ((A (512 * j + n.val) : ℝ) : EReal))

include hA

/-- A score below the diagonal is a real number. -/
theorem plain_real (j : ℕ) (hj : j ≤ i) (n : Fin 512) : plain q x hd j (ix2 r n) = ((A (512 * j + n.val) * (Real.log 2)⁻¹ : ℝ) : EReal) := by
  unfold plain
  rw [plain_at, hA j hj n, ← EReal.coe_mul]

/-- A score on the diagonal is a real number, or masked. -/
theorem masked_real (n : Fin 512) :
    masked q x hd i (ix2 r n) = if n.val ≤ r.val % 512 then ((A (512 * i + n.val) * (Real.log 2)⁻¹ : ℝ) : EReal) else ⊥ := by
  unfold masked
  rw [masked_at, hA i (Nat.le_refl i) n, ← EReal.coe_mul]

/-- A kept score is a real number up to the query, and masked after it. -/
theorem scores_real (j : ℕ) (hj : j ≤ i) (n : Fin 512) :
    k0_pay25 (scores q x hd i j) (ix2 r n)
      = if 512 * j + n.val ≤ 512 * i + r.val % 512 then ((A (512 * j + n.val) * (Real.log 2)⁻¹ : ℝ) : EReal) else ⊥ := by
  have hn := n.isLt
  have hr : r.val % 512 < 512 := Nat.mod_lt _ (by decide)
  unfold scores
  by_cases h : j < i
  · rw [if_pos h, kept_below, if_pos (by omega)]
    exact plain_real q x hd i r A hA j hj n
  · obtain rfl : j = i := by omega
    rw [if_neg h, kept_diagonal, masked_real q x hd j r A hA n]
    exact if_congr (by omega) rfl rfl

/-- The lane maxima are below plus infinity. -/
theorem lanes_lt (n : ℕ) (hn : n ≤ i) (c : Fin 128) : lanes q x hd n (ix3 0 r c) < ⊤ := by
  induction n with
  | zero => exact bot_lt_top
  | succ n ih =>
    show k0_pay7 (plain q x hd n) (lanes q x hd n) (ix3 0 r c) < ⊤
    rw [lanes_at]
    have hp : ∀ y : Fin 512, plain q x hd n (ix2 r y) < ⊤ := fun y => by
      rw [plain_real q x hd i r A hA n (by omega) y]; exact EReal.coe_lt_top _
    exact max_lt (ih (by omega)) (max_lt (max_lt (max_lt (hp _) (hp _)) (hp _)) (hp _))

/-- A row's maximum is a real number, the same in every lane. -/
theorem rowmax_real : ∃ M : ℝ, ∀ c : Fin 128, rowmax q x hd i (ix3 0 r c) = ((M : ℝ) : EReal) := by
  have hb : Ideal.ofBits .f32 4286578688#32 = ⊥ := by simp [Ideal.ofBits, Ideal.ieee]
  have hm : ∀ y : Fin 512, masked q x hd i (ix2 r y) < ⊤ := fun y => by
    rw [masked_real q x hd i r A hA y]
    split_ifs
    · exact EReal.coe_lt_top _
    · exact bot_lt_top
  set f : Fin 128 → EReal := fun c => k0_pay7 (masked q x hd i) (lanes q x hd i) (ix3 0 r c) with hf
  have hlt : Finset.fold max ⊥ f Finset.univ < ⊤ := (Finset.fold_max_lt (c := (⊤ : EReal))).2 ⟨bot_lt_top, fun c _ => by
    rw [hf]; simp only []
    rw [lanes_at]
    exact max_lt (lanes_lt q x hd i r A hA i (Nat.le_refl i) c) (max_lt (max_lt (max_lt (hm _) (hm _)) (hm _)) (hm _))⟩
  have hgt : ⊥ < Finset.fold max ⊥ f Finset.univ := by
    have h0 : ⊥ < f 0 := by
      rw [hf]; simp only []
      rw [lanes_at]
      refine lt_max_of_lt_right (lt_max_of_lt_left (lt_max_of_lt_left (lt_max_of_lt_left ?_)))
      rw [masked_real q x hd i r A hA, if_pos (by simp)]
      exact EReal.bot_lt_coe _
    exact lt_of_lt_of_le h0 ((Finset.le_fold_max (c := f 0)).2 (Or.inr ⟨0, Finset.mem_univ _, le_refl _⟩))
  refine ⟨(Finset.fold max ⊥ f Finset.univ).toReal, fun c => ?_⟩
  unfold rowmax
  rw [rowmax_at, hb, EReal.coe_toReal hlt.ne hgt.ne']

section Sums

variable (M : ℝ) (m : Vec Ideal S1x1024x128 .f32) (hm : ∀ c : Fin 128, m (ix3 0 r c) = ((M : ℝ) : EReal))

include hm

/-- An exponential of the second pass. -/
theorem exp_real (j : ℕ) (hj : j ≤ i) (n : Fin 512) :
    Ideal.exp2 (k0_pay25 (F := Ideal) (scores q x hd i j) (ix2 r n) - (M : EReal))
      = ((weightOf (512 * i + r.val % 512) A (M * Real.log 2) (512 * j + n.val) : ℝ) : EReal) := by
  rw [scores_real q x hd i r A hA j hj n, weightOf]
  split_ifs with h
  · exact exp2_sub _ _
  · exact exp2_bot_sub _

/-- The lane sums add up to the sum of the exponentials over the keys so far. -/
theorem sums_real (n : ℕ) (hn : n ≤ i + 1) :
    ∃ f : Fin 128 → ℝ, (∀ c, sums (scores q x hd i) m n (ix3 0 r c) = ((f c : ℝ) : EReal))
      ∧ ∑ c, f c = ∑ k ∈ Finset.range (512 * n), weightOf (512 * i + r.val % 512) A (M * Real.log 2) k := by
  induction n with
  | zero => exact ⟨fun _ => 0, fun c => by show Ideal.ofBits .f32 0x00000000#32 = _; simp [Ideal.ofBits, Ideal.ieee], by simp⟩
  | succ n ih =>
    obtain ⟨f, h1, h2⟩ := ih (by omega)
    set g := weightOf (512 * i + r.val % 512) A (M * Real.log 2) with hg
    refine ⟨fun c => f c + (g (512 * n + c.val) + g (512 * n + (128 + c.val)) + g (512 * n + (256 + c.val)) + g (512 * n + (384 + c.val))), fun c => ?_, ?_⟩
    · show k0_pay31 (scores q x hd i n) m (sums (scores q x hd i) m n) (ix3 0 r c) = _
      rw [sums_at, h1 c, hm c, exp_real q x hd i r A hA M m hm n (by omega), exp_real q x hd i r A hA M m hm n (by omega),
        exp_real q x hd i r A hA M m hm n (by omega), exp_real q x hd i r A hA M m hm n (by omega)]
      simp only [EReal.coe_add]
      rfl
    · rw [Nat.mul_succ, Finset.sum_range_add, ← h2]
      rw [show 512 = 128 + (128 + (128 + 128)) from rfl, Finset.sum_range_add _ 128, Finset.sum_range_add _ 128, Finset.sum_range_add _ 128]
      simp only [Finset.sum_add_distrib, Finset.sum_range, ← Nat.add_assoc]
      ring

/-- The weighted values are the exponentials against the values, over the keys so far. -/
theorem weighted_real (V : ℕ → ℝ) (d : Fin 128) (hV : ∀ j ≤ i, ∀ n : Fin 512, ktile v hd j (ix2 n d) = ((V (512 * j + n.val) : ℝ) : EReal))
    (n : ℕ) (hn : n ≤ i + 1) :
    weighted (scores q x hd i) m v hd n (ix3 0 r d)
      = ((∑ k ∈ Finset.range (512 * n), weightOf (512 * i + r.val % 512) A (M * Real.log 2) k * V k : ℝ) : EReal) := by
  induction n with
  | zero => show Ideal.ofBits .f32 0x00000000#32 = _; simp [Ideal.ofBits, Ideal.ieee]
  | succ n ih =>
    show k0_pay33 (k0_pay32 (scores q x hd i n) m (weighted (scores q x hd i) m v hd n) (ktile v hd n)) (ix3 0 r d) = _
    rw [weighted_at _ _ _ _ r d _ hm, ih (by omega), Nat.mul_succ, Finset.sum_range_add, EReal.coe_add, Finset.sum_range (n := 512), coe_sum Finset.univ]
    refine congrArg₂ (· + ·) rfl (Finset.sum_congr rfl fun y _ => ?_)
    rw [exp_real q x hd i r A hA M m hm n (by omega) y, hV n (by omega) y, EReal.coe_mul]

end Sums

/-- A head's weighted values over its sum of exponentials: the softmax's average. -/
theorem head_real (V : ℕ → ℝ) (d : Fin 128) (hV : ∀ j ≤ i, ∀ n : Fin 512, ktile v hd j (ix2 n d) = ((V (512 * j + n.val) : ℝ) : EReal)) :
    Ideal.div (weighted (scores q x hd i) (rowmax q x hd i) v hd (i + 1) (ix3 0 r d))
        (∑ c : Fin 128, sums (scores q x hd i) (rowmax q x hd i) (i + 1) (ix3 0 r c))
      = ((att (512 * i + r.val % 512) A V : ℝ) : EReal) := by
  obtain ⟨M, hM⟩ := rowmax_real q x hd i r A hA
  obtain ⟨f, h1, h2⟩ := sums_real q x hd i r A hA M _ hM (i + 1) (Nat.le_refl _)
  have hp : 512 * i + r.val % 512 < 512 * (i + 1) := by omega
  rw [weighted_real q x v hd i r A hA M _ hM V d hV (i + 1) (Nat.le_refl _), Finset.sum_congr rfl fun c _ => h1 c, ← coe_sum, h2,
    div_real _ _ (weightOf_pos _ _ hp A _).ne', div_weightOf _ _ hp]

end Head

end Cert.Proof.AttnValue

end
-- ==== Proof.AttnValue.Blocks.lean ====
/- The attention's blocks at a grid point, read from the arguments: queries with their eighth, keys, values, and the
   small vectors. -/
module

public import proofs.«01_k».proof.Proof.Gen.KernelIdeal.Frame
public import Idealize.ShloMosaic.Lib.Pipeline.ValueKit

@[expose] public section

set_option maxRecDepth 16384

noncomputable section

namespace Cert.Proof.AttnValue

open Cert.KernelIdeal Cert.KernelIdeal.Gen
open Idealize.ShloMosaic Idealize.ShloMosaic.TcCoe

variable (m : (ℓ : Loc nD τ sig) → Buf (Elt Ideal) ℓ)

/-- Where each window's block sits at each point. -/
theorem places : ∀ t : Fin cfg0.N, win0_0.index t = ![t.val / 16 * 8 + t.val % 8, t.val / 8 % 2] ∧ win0_1.index t = ![t.val / 16, t.val / 8 % 2]
    ∧ win0_2.index t = ![t.val / 16, t.val / 8 % 2] ∧ win0_3.index t = ![0, 0] ∧ win0_4.index t = ![0, 0] ∧ win0_5.index t = ![0, 0]
    ∧ win0_6.index t = ![0, 0] ∧ win0_7.index t = ![0, 0] ∧ win0_8.index t = ![t.val / 16 * 8 + t.val % 8, t.val / 8 % 2]
    ∧ (grid0.coords t 2).val = t.val % 8 :=
  (by decide +kernel : ∀ t : Fin grid0.N, _)

/-- A point's queries. -/
theorem queries (c : Dev nD) (t : Fin cfg0.N) (a : Fin 512) (e : Fin 256) (b h : Fin 4) (p : Fin 4096) (u : Fin 2) (d : Fin 64)
    (hb : b.val = t.val / 16) (hp : p.val = t.val % 8 * 512 + a.val) (he : h.val * 128 + u.val * 64 + d.val = t.val / 8 % 2 * 256 + e.val)
    (z : EReal) (hz : m ((c : Thread nD τ).loc main_arg0) (ix5 b p h u d) = z) :
    iblk m c 0 t (ix2 a e) = z * Ideal.ofBits .f32 0x3E000000#32 := by
  blk_simp [iblk]
  entry_read
  pointwise
  refine congrArg (fun w : EReal => w * _) (Eq.trans ?_ hz)
  blk_ext [places t]

/-- A point's keys. -/
theorem keys (c : Dev nD) (t : Fin cfg0.N) (a : Fin 4096) (e : Fin 256) (b h : Fin 4) (u : Fin 2) (d : Fin 64)
    (hb : b.val = t.val / 16) (he : h.val * 128 + u.val * 64 + d.val = t.val / 8 % 2 * 256 + e.val) :
    iblk m c 1 t (ix2 a e) = m ((c : Thread nD τ).loc main_arg1) (ix5 b a h u d) := by
  blk_simp [iblk]
  entry_read
  pointwise
  blk_ext [places t]

/-- A point's values. -/
theorem values (c : Dev nD) (t : Fin cfg0.N) (a : Fin 4096) (e : Fin 256) (b h : Fin 4) (d : Fin 128)
    (hb : b.val = t.val / 16) (he : h.val * 128 + d.val = t.val / 8 % 2 * 256 + e.val) :
    iblk m c 2 t (ix2 a e) = m ((c : Thread nD τ).loc main_arg2) (ix4 b a h d) := by
  blk_simp [iblk]
  entry_read
  pointwise
  blk_ext [places t]

/-- The four vectors of the second softmax's weight, and the scale. -/
theorem vec3 (c : Dev nD) (t : Fin cfg0.N) (a : Fin 64) : iblk m c 3 t (ix2 0 a) = m ((c : Thread nD τ).loc main_arg3) (ix1 a) := by
  blk_simp [iblk]; entry_read; pointwise; blk_ext [places t]
theorem vec4 (c : Dev nD) (t : Fin cfg0.N) (a : Fin 64) : iblk m c 4 t (ix2 0 a) = m ((c : Thread nD τ).loc main_arg4) (ix1 a) := by
  blk_simp [iblk]; entry_read; pointwise; blk_ext [places t]
theorem vec5 (c : Dev nD) (t : Fin cfg0.N) (a : Fin 64) : iblk m c 5 t (ix2 0 a) = m ((c : Thread nD τ).loc main_arg5) (ix1 a) := by
  blk_simp [iblk]; entry_read; pointwise; blk_ext [places t]
theorem vec6 (c : Dev nD) (t : Fin cfg0.N) (a : Fin 64) : iblk m c 6 t (ix2 0 a) = m ((c : Thread nD τ).loc main_arg6) (ix1 a) := by
  blk_simp [iblk]; entry_read; pointwise; blk_ext [places t]
theorem vec7 (c : Dev nD) (t : Fin cfg0.N) (a : Fin 128) : iblk m c 7 t (ix2 0 a) = m ((c : Thread nD τ).loc main_arg7) (ix1 a) := by
  blk_simp [iblk]; entry_read; pointwise; blk_ext [places t]

end Cert.Proof.AttnValue

end
-- ==== Proof.AttnValue.Reference.lean ====
/- The attention's reference read at one place: its scores, its softmaxes, their difference over the values, and the
   normalized output. -/
module

public import proofs.«01_k».proof.Proof.Gen.ReferenceIdeal.Run
public import Idealize.ShloMosaic.Lib.Pipeline.ValueKit

@[expose] public section

set_option maxRecDepth 16384

noncomputable section

namespace Cert.Proof.AttnValue.Ref

open Cert.ReferenceIdeal Cert.ReferenceIdeal.Gen Cert.ReferenceIdeal.Value
open Idealize.ShloMosaic Idealize.ShloMosaic.TcCoe

/-- The scores: a half of a query against a half of a key, an eighth of it, and minus infinity after the query. -/
def score (q k : FVec Ideal S4x4096x4x2x64 .f32) : FVec Ideal S4x4x2x4096x4096 .f32 :=
  select (broadcastInDim S4x4x2x4096x4096 ![0, 1, 2, 3, 4] bcast_S1x1x1x4096x4096_S4x4x2x4096x4096_0_1_2_3_4 (broadcastInDim S1x1x1x4096x4096 ![3, 4] bcast_S4096x4096_S1x1x1x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (mulf (Host.dotGeneral dot_S4x4096x4x2x64_S4x4096x4x2x64_S4x4x2x4096x4096_4_4_1_1_023_023 none q k) (broadcastInDim S4x4x2x4096x4096 ![] bcast_S_S4x4x2x4096x4096 (constant S_ .f32 0x3E000000#32))) (broadcastInDim S4x4x2x4096x4096 ![] bcast_S_S4x4x2x4096x4096 (id (constant S_ .f32 0xFF800000#32)))

/-- The maximum of a query's scores. -/
def most (s : FVec Ideal S4x4x2x4096x4096 .f32) : FVec Ideal S4x4x2x4096 .f32 :=
  Host.reduce FloatOps.maximumf s (constant S_ .f32 0xFF800000#32) reducesTo_S4x4x2x4096x4096_S4x4x2x4096_d4 h_S_

/-- A query's greatest score, from minus infinity. -/
def top (x : FVec Ideal S4x4x2x4096 .f32) : FVec Ideal S4x4x2x4096 .f32 :=
  maximumf (broadcastInDim S4x4x2x4096 ![] bcast_S_S4x4x2x4096 (constant S_ .f32 0xFF800000#32)) x

/-- The exponentials of the scores less the greatest one. -/
def weight (s : FVec Ideal S4x4x2x4096x4096 .f32) (t : FVec Ideal S4x4x2x4096 .f32) : FVec Ideal S4x4x2x4096x4096 .f32 :=
  Host.exp (subf s (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 t)))

/-- The sum of a query's exponentials. -/
def total (w : FVec Ideal S4x4x2x4096x4096 .f32) : FVec Ideal S4x4x2x4096 .f32 :=
  Host.reduceAdd w (constant S_ .f32 0x00000000#32) reducesTo_S4x4x2x4096x4096_S4x4x2x4096_d4 h_S_

/-- A query's softmax. -/
def prob (w : FVec Ideal S4x4x2x4096x4096 .f32) (z : FVec Ideal S4x4x2x4096 .f32) : FVec Ideal S4x4x2x4096x4096 .f32 :=
  Host.divf w (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 z))

/-- The weight of the second softmax. -/
def lam (a₁ b₁ a₂ b₂ : FVec Ideal S64 .f32) : FVec Ideal S_ .f32 :=
  addf (subf (Host.exp (Host.reduceAdd (mulf a₁ b₁) (constant S_ .f32 0x00000000#32) reducesTo_S64_S_d0 h_S_)) (Host.exp (Host.reduceAdd (mulf a₂ b₂) (constant S_ .f32 0x00000000#32) reducesTo_S64_S_d0 h_S_))) (constant S_ .f32 0x3E4CCCCD#32)

/-- The values by the difference of the two softmaxes. -/
def mixed (v : FVec Ideal S4x4096x4x128 .f32) (p : FVec Ideal S4x4x2x4096x4096 .f32) (l : FVec Ideal S_ .f32) : FVec Ideal S4x4096x4x128 .f32 :=
  transpose S4x4096x4x128 [0, 3, 1, 2] (Host.dotGeneral dot_S4x4096x4x128_S4x4x4096x4096_S4x4x128x4096_1_3_3_2_02_01 none v (subf (shapeCast _ (extractStridedSlice S4x4x1x4096x4096 ![0, 0, 0, 0, 0] p slices_S4x4x2x4096x4096_S4x4x1x4096x4096_0_0_0_0_0) shapeCasts_S4x4x1x4096x4096_S4x4x4096x4096) (mulf (broadcastInDim S4x4x4096x4096 ![] bcast_S_S4x4x4096x4096 l) (shapeCast _ (extractStridedSlice S4x4x1x4096x4096 ![0, 0, 1, 0, 0] p slices_S4x4x2x4096x4096_S4x4x1x4096x4096_0_0_1_0_0) shapeCasts_S4x4x1x4096x4096_S4x4x4096x4096)))) transposes_S4x4x128x4096_S4x4096x4x128_0_3_1_2

/-- The output: each head normalized by its root mean square, and scaled. -/
def normed (x : FVec Ideal S4x4096x4x128 .f32) (g : FVec Ideal S128 .f32) : FVec Ideal S16384x512 .bf16 :=
  truncf .bf16 (shapeCast _ (mulf (mulf (mulf x (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf x x) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 g))) (broadcastInDim S4x4096x4x128 ![] bcast_S_S4x4096x4x128 (constant S_ .f32 0x3F4CCCCD#32))) shapeCasts_S4x4096x4x128_S16384x512) bitsLt_bf16_f32

/-- The reference's softmaxes. -/
def soft (q k : FVec Ideal S4x4096x4x2x64 .f32) : FVec Ideal S4x4x2x4096x4096 .f32 :=
  prob (weight (score q k) (top (most (score q k)))) (total (weight (score q k) (top (most (score q k)))))

set_option maxHeartbeats 1000000 in
/-- The reference's result, by its parts. -/
theorem result_eq (m : (ℓ : Loc nD τ sig) → Buf (Elt Ideal) ℓ) (c : Dev nD) :
    res_main_v55 m c = normed (mixed (m ((c.tc : Thread nD τ).loc main_arg2))
      (soft (m ((c.tc : Thread nD τ).loc main_arg0)) (m ((c.tc : Thread nD τ).loc main_arg1)))
      (lam (m ((c.tc : Thread nD τ).loc main_arg3)) (m ((c.tc : Thread nD τ).loc main_arg4))
        (m ((c.tc : Thread nD τ).loc main_arg5)) (m ((c.tc : Thread nD τ).loc main_arg6)))) (m ((c.tc : Thread nD τ).loc main_arg7)) := by
  unfold res_main_v55 normed mixed soft prob total weight top most score lam
  rfl

/-- A score. -/
theorem score_at (q k : FVec Ideal S4x4096x4x2x64 .f32) (b h : Fin 4) (c : Fin 2) (i j : Fin 4096) :
    score q k (ix5 b h c i j) = Scalar.select (IntOp.cmpi CmpIPredicate.sle (BitVec.ofNat 32 j.val) (BitVec.ofNat 32 i.val))
      ((∑ x : Fin 64, q (ix5 b i h c x) * k (ix5 b j h c x)) * Ideal.ofBits FTy.f32 1040187392#32)
      (Ideal.ofBits FTy.f32 4286578688#32) := by
  pointwise [score]
  rfl

/-- A maximum over an axis is finite from above where its entries are, and at least each entry. -/
theorem reduce_max {s t u : Shape} {axes : List (Fin s.rank)} (x : FVec Ideal s .f32) (init : FVec Ideal u .f32) (h : s.ReducesTo axes t)
    (hu : 0 < u.numel) (hi : init (Shape.Idx.first hu) ≠ ⊤) (hx : ∀ i, x i ≠ ⊤) (j : t.Idx) :
    Host.reduce FloatOps.maximumf x init h hu j ≠ ⊤ ∧ ∀ i, h.drop i = j → x i ≤ Host.reduce FloatOps.maximumf x init h hu j := by
  rw [Host.reduce_eq_fold]
  constructor
  · refine ne_of_lt ((Finset.fold_max_lt (c := (⊤ : EReal))).2 ⟨lt_top_iff_ne_top.2 hi, fun i _ => lt_top_iff_ne_top.2 (hx i)⟩)
  · intro i hd
    exact (Finset.le_fold_max (c := (x i : EReal))).2 (Or.inr ⟨i, Finset.mem_filter.2 ⟨Finset.mem_univ _, hd⟩, le_refl _⟩)

/-- Where a query and a key drop to, along the keys. -/
theorem drop_at (b h : Fin 4) (c : Fin 2) (i j : Fin 4096) :
    reducesTo_S4x4x2x4096x4096_S4x4x2x4096_d4.drop (ix5 b h c i j) = ix4 b h c i := by
  refine funext fun a => Fin.ext ?_
  match a with
  | ⟨0, _⟩ => exact Shape.ReducesTo.drop_apply_val_of_eq reducesTo_S4x4x2x4096x4096_S4x4x2x4096_d4 (ix5 b h c i j) 0 0
  | ⟨1, _⟩ => exact Shape.ReducesTo.drop_apply_val_of_eq reducesTo_S4x4x2x4096x4096_S4x4x2x4096_d4 (ix5 b h c i j) 1 1
  | ⟨2, _⟩ => exact Shape.ReducesTo.drop_apply_val_of_eq reducesTo_S4x4x2x4096x4096_S4x4x2x4096_d4 (ix5 b h c i j) 2 2
  | ⟨3, _⟩ => exact Shape.ReducesTo.drop_apply_val_of_eq reducesTo_S4x4x2x4096x4096_S4x4x2x4096_d4 (ix5 b h c i j) 3 3

/-- The pattern of minus infinity. -/
theorem ofBits_bot : Ideal.ofBits .f32 4286578688#32 = ⊥ := by simp [Ideal.ofBits, Ideal.ieee]

/-- A query's greatest score is finite from above where its scores are, and at least each of them. -/
theorem most_at (s : FVec Ideal S4x4x2x4096x4096 .f32) (hs : ∀ y, s y ≠ ⊤) (b h : Fin 4) (c : Fin 2) (i : Fin 4096) :
    most s (ix4 b h c i) ≠ ⊤ ∧ ∀ j, s (ix5 b h c i j) ≤ most s (ix4 b h c i) := by
  obtain ⟨h1, h2⟩ := reduce_max s (constant S_ .f32 0xFF800000#32) reducesTo_S4x4x2x4096x4096_S4x4x2x4096_d4 h_S_
    (by show Ideal.ofBits FTy.f32 4286578688#32 ≠ ⊤; rw [ofBits_bot]; exact bot_ne_top) hs (ix4 b h c i)
  exact ⟨h1, fun j => h2 _ (drop_at b h c i j)⟩

/-- Minus infinity changes no maximum. -/
theorem top_at (x : FVec Ideal S4x4x2x4096 .f32) (y : S4x4x2x4096.Idx) : top x y = x y := by
  have e : top x y = max (Ideal.ofBits FTy.f32 4286578688#32) (x y) := rfl
  rw [e, ofBits_bot]
  exact max_eq_right bot_le

/-- An exponential. -/
theorem weight_at (s : FVec Ideal S4x4x2x4096x4096 .f32) (t : FVec Ideal S4x4x2x4096 .f32) (b h : Fin 4) (c : Fin 2) (i j : Fin 4096) :
    weight s t (ix5 b h c i j) = Ideal.exp (s (ix5 b h c i j) - t (ix4 b h c i)) := by
  pointwise [weight]

/-- A sum of exponentials. -/
theorem total_at (w : FVec Ideal S4x4x2x4096x4096 .f32) (b h : Fin 4) (c : Fin 2) (i : Fin 4096) :
    total w (ix4 b h c i) = ∑ x : Fin 4096, w (ix5 b h c i x) := by
  pointwise [total]

/-- A softmax. -/
theorem prob_at (w : FVec Ideal S4x4x2x4096x4096 .f32) (z : FVec Ideal S4x4x2x4096 .f32) (b h : Fin 4) (c : Fin 2) (i j : Fin 4096) :
    prob w z (ix5 b h c i j) = Ideal.div (w (ix5 b h c i j)) (z (ix4 b h c i)) := by
  pointwise [prob]

/-- The weight of the second softmax. -/
theorem lam_at (a₁ b₁ a₂ b₂ : FVec Ideal S64 .f32) :
    lam a₁ b₁ a₂ b₂ ix0 = Ideal.exp (∑ x : Fin 64, a₁ (ix1 x) * b₁ (ix1 x)) - Ideal.exp (∑ x : Fin 64, a₂ (ix1 x) * b₂ (ix1 x))
      + Ideal.ofBits FTy.f32 1045220557#32 := by
  pointwise [lam]

/-- The difference of the softmaxes over the values. -/
theorem mixed_at (v : FVec Ideal S4x4096x4x128 .f32) (p : FVec Ideal S4x4x2x4096x4096 .f32) (l : FVec Ideal S_ .f32) (b h : Fin 4)
    (i : Fin 4096) (d : Fin 128) :
    mixed v p l (ix4 b i h d) = ∑ x : Fin 4096, v (ix4 b x h d) * (p (ix5 b h 0 i x) - l ix0 * p (ix5 b h 1 i x)) := by
  pointwise [mixed]

/-- The output. -/
theorem normed_at (x : FVec Ideal S4x4096x4x128 .f32) (g : FVec Ideal S128 .f32) (p : Fin 16384) (e : Fin 512) (b h : Fin 4) (i : Fin 4096) (d : Fin 128)
    (hp : p.val = b.val * 4096 + i.val) (he : e.val = h.val * 128 + d.val) :
    normed x g (ix2 p e) = x (ix4 b i h d)
      * Ideal.rsqrt (Ideal.div (∑ y : Fin 128, x (ix4 b i h y) * x (ix4 b i h y)) (Ideal.ofBits FTy.f32 1124073472#32) + Ideal.ofBits FTy.f32 897988541#32)
      * g (ix1 d) * Ideal.ofBits FTy.f32 1061997773#32 := by
  have hb : (⟨p.val / 4096, by omega⟩ : Fin 4) = b := Fin.ext (by simp only []; omega)
  have hi : (⟨p.val % 4096, by omega⟩ : Fin 4096) = i := Fin.ext (by simp only []; omega)
  have hh : (⟨e.val / 128, by omega⟩ : Fin 4) = h := Fin.ext (by simp only []; omega)
  have hd : (⟨e.val % 128, by omega⟩ : Fin 128) = d := Fin.ext (by simp only []; omega)
  pointwise [normed]
  rw [hb, hi, hh, hd]

end Cert.Proof.AttnValue.Ref

end
-- ==== Proof.AttnValue.RefValue.lean ====
/- The attention's reference on finite arguments, as real numbers: its softmaxes, and their difference over the values. -/
module

public import proofs.«01_k».proof.Proof.AttnValue.Reference
public import proofs.«01_k».proof.Proof.AttnValue.Softmax
public import Idealize.ShloMosaic.Lib.WordCmp

@[expose] public section

set_option maxRecDepth 16384

noncomputable section

namespace Cert.Proof.AttnValue

open Cert.ReferenceIdeal Cert.ReferenceIdeal.Gen
open Idealize.ShloMosaic Idealize.ShloMosaic.WordCmp

/-- A query's score against key `k`: an eighth of their product. -/
def scoreOf (Q K : S4x4096x4x2x64.Idx → ℝ) (b h : Fin 4) (u : Fin 2) (p : Fin 4096) (k : ℕ) : ℝ :=
  if hk : k < 4096 then (∑ d : Fin 64, Q (ix5 b p h u d) * K (ix5 b ⟨k, hk⟩ h u d)) * (1 / 8) else 0

/-- Lane `d` of key `k`'s value. -/
def valueAt (V : S4x4096x4x128.Idx → ℝ) (b h : Fin 4) (d : Fin 128) (k : ℕ) : ℝ :=
  if hk : k < 4096 then V (ix4 b ⟨k, hk⟩ h d) else 0

/-- An eighth. -/
theorem ofBits_eighth : Ideal.ofBits .f32 1040187392#32 = ((1 / 8 : ℝ) : EReal) := by
  simp [Ideal.ofBits, Ideal.ieee, -EReal.coe_mul]; norm_num

variable (q k : FVec Ideal S4x4096x4x2x64 .f32) (v : FVec Ideal S4x4096x4x128 .f32) (Q K : S4x4096x4x2x64.Idx → ℝ) (V : S4x4096x4x128.Idx → ℝ)
  (hq : ∀ y, q y = ((Q y : ℝ) : EReal)) (hk : ∀ y, k y = ((K y : ℝ) : EReal)) (hv : ∀ y, v y = ((V y : ℝ) : EReal))

include hq hk

/-- A reference's score is a real number up to the query, and minus infinity after it. -/
theorem ref_score (b h : Fin 4) (u : Fin 2) (p j : Fin 4096) :
    Ref.score q k (ix5 b h u p j) = if j.val ≤ p.val then ((scoreOf Q K b h u p j.val : ℝ) : EReal) else ⊥ := by
  have hp := p.isLt
  have hj := j.isLt
  rw [Ref.score_at, cmpi_sle_ofNat (by omega) (by omega), select_decide, Ref.ofBits_bot, ofBits_eighth]
  refine if_congr Iff.rfl ?_ rfl
  rw [scoreOf, dif_pos hj, EReal.coe_mul, coe_sum]
  refine congrArg (· * _) (Finset.sum_congr rfl fun d _ => ?_)
  rw [hq, hk, EReal.coe_mul]

/-- A query's greatest score is a real number. -/
theorem ref_most (b h : Fin 4) (u : Fin 2) (p : Fin 4096) : ∃ M : ℝ, Ref.most (Ref.score q k) (ix4 b h u p) = ((M : ℝ) : EReal) := by
  have hs : ∀ y, Ref.score q k y ≠ ⊤ := fun y hy => by
    have e : y = ix5 (y 0) (y 1) (y 2) (y 3) (y 4) := eq_ix5 y
    refine absurd ((ref_score q k Q K hq hk (y 0) (y 1) (y 2) (y 3) (y 4)).symm.trans ((congrArg (Ref.score q k) e).symm.trans hy)) ?_
    split_ifs
    · exact EReal.coe_ne_top _
    · exact bot_ne_top
  obtain ⟨h1, h2⟩ := Ref.most_at (Ref.score q k) hs b h u p
  have h3 := h2 p
  rw [ref_score q k Q K hq hk, if_pos (Nat.le_refl _)] at h3
  exact ⟨_, (EReal.coe_toReal h1 (lt_of_lt_of_le (EReal.bot_lt_coe _) h3).ne').symm⟩

/-- A reference's softmax is the exponential's share. -/
theorem ref_soft (b h : Fin 4) (u : Fin 2) (p : Fin 4096) : ∃ M : ℝ, ∀ j : Fin 4096,
    Ref.soft q k (ix5 b h u p j) = ((weightOf p.val (scoreOf Q K b h u p) M j.val
      / ∑ x ∈ Finset.range 4096, weightOf p.val (scoreOf Q K b h u p) M x : ℝ) : EReal) := by
  obtain ⟨M, hM⟩ := ref_most q k Q K hq hk b h u p
  have hw : ∀ j : Fin 4096, Ref.weight (Ref.score q k) (Ref.top (Ref.most (Ref.score q k))) (ix5 b h u p j)
      = ((weightOf p.val (scoreOf Q K b h u p) M j.val : ℝ) : EReal) := fun j => by
    rw [Ref.weight_at, Ref.top_at, hM, ref_score q k Q K hq hk, weightOf]
    split_ifs
    · rw [← EReal.coe_sub]; rfl
    · rw [EReal.bot_sub]; rfl
  refine ⟨M, fun j => ?_⟩
  unfold Ref.soft
  rw [Ref.prob_at, hw j, Ref.total_at, Finset.sum_congr rfl fun x _ => hw x, ← coe_sum, ← Finset.sum_range (fun x => weightOf p.val (scoreOf Q K b h u p) M x)]
  exact div_real _ _ (weightOf_pos 4096 p.val p.isLt _ M).ne'

include hv

/-- The difference of the two softmaxes over the values. -/
theorem ref_mixed (l : FVec Ideal S_ .f32) (L : ℝ) (hl : l ix0 = ((L : ℝ) : EReal)) (b h : Fin 4) (p : Fin 4096) (d : Fin 128) :
    Ref.mixed v (Ref.soft q k) l (ix4 b p h d)
      = ((att p.val (scoreOf Q K b h 0 p) (valueAt V b h d) : ℝ) : EReal) - (L : EReal) * ((att p.val (scoreOf Q K b h 1 p) (valueAt V b h d) : ℝ) : EReal) := by
  obtain ⟨M0, h0⟩ := ref_soft q k Q K hq hk b h 0 p
  obtain ⟨M1, h1⟩ := ref_soft q k Q K hq hk b h 1 p
  rw [Ref.mixed_at, ← EReal.coe_mul, ← EReal.coe_sub, ← div_weightOf 4096 p.val p.isLt _ _ M0, ← div_weightOf 4096 p.val p.isLt _ _ M1]
  rw [hl]
  have e : ∀ x : Fin 4096, v (ix4 b x h d) * (Ref.soft q k (ix5 b h 0 p x) - (L : EReal) * Ref.soft q k (ix5 b h 1 p x))
      = ((valueAt V b h d x.val * (weightOf p.val (scoreOf Q K b h 0 p) M0 x.val / (∑ y ∈ Finset.range 4096, weightOf p.val (scoreOf Q K b h 0 p) M0 y)
          - L * (weightOf p.val (scoreOf Q K b h 1 p) M1 x.val / ∑ y ∈ Finset.range 4096, weightOf p.val (scoreOf Q K b h 1 p) M1 y)) : ℝ) : EReal) := fun x => by
    rw [h0 x, h1 x, hv, ← EReal.coe_mul, ← EReal.coe_sub, ← EReal.coe_mul, valueAt, dif_pos x.isLt]
  rw [Finset.sum_congr rfl fun x _ => e x, ← coe_sum]
  refine congrArg (fun z : ℝ => (z : EReal)) ?_
  rw [← Finset.sum_range (fun x => valueAt V b h d x * (weightOf p.val (scoreOf Q K b h 0 p) M0 x / (∑ y ∈ Finset.range 4096, weightOf p.val (scoreOf Q K b h 0 p) M0 y)
          - L * (weightOf p.val (scoreOf Q K b h 1 p) M1 x / ∑ y ∈ Finset.range 4096, weightOf p.val (scoreOf Q K b h 1 p) M1 y)))]
  rw [Finset.sum_div, Finset.sum_div, Finset.mul_sum, ← Finset.sum_sub_distrib]
  exact Finset.sum_congr rfl fun x _ => by ring

end Cert.Proof.AttnValue

end
-- ==== Proof.AttnValue.Point.lean ====
/- What the attention's kernel stores at a grid point, on finite arguments, is the reference's output there. -/
module

public import proofs.«01_k».proof.Proof.AttnIdeal.Body
public import proofs.«01_k».proof.Proof.AttnValue.Head
public import proofs.«01_k».proof.Proof.AttnValue.Blocks
public import proofs.«01_k».proof.Proof.AttnValue.RefValue

@[expose] public section

set_option maxRecDepth 16384

noncomputable section

namespace Cert.Proof.AttnValue

open Cert.KernelIdeal Cert.KernelIdeal.Gen Cert.Proof.AttnIdeal
open Idealize.ShloMosaic Idealize.ShloMosaic.TcCoe Idealize.ShloMosaic.WordCmp

/-- The queries of a head, each twice: the row's half of the lanes, the rest at zero. -/
theorem stacked_at (q : Vec Ideal S512x128 .bf16) (r : Fin 1024) (d : Fin 128) (a : Fin 512) (u : Fin 2) (hr : r.val = 512 * u.val + a.val) :
    k0_pay116 q (ix2 r d) = if d.val / 64 = u.val then q (ix2 a d) else (0 : EReal) := by
  have ha := a.isLt
  have hd := d.isLt
  have hu := u.isLt
  pointwise [k0_pay116]
  by_cases h : r.val < 512
  · refine (dif_pos h).trans ?_
    rw [cmpi_slt_ofNat (by omega) (by omega), select_decide, show (⟨r.val, h⟩ : Fin 512) = a from Fin.ext (by simp only []; omega)]
    exact if_congr (by omega) rfl rfl
  · refine (dif_neg h).trans ?_
    rw [cmpi_slt_ofNat (by omega) (by omega), select_decide, show (⟨r.val - 512, by omega⟩ : Fin 512) = a from Fin.ext (by simp only []; omega)]
    by_cases h2 : d.val < 64
    · rw [if_pos h2, if_neg (by omega)]
    · rw [if_neg h2, if_pos (by omega)]

/-- A sum over the lanes of a head that keeps half of them. -/
theorem sum_half (f : Fin 128 → EReal) (u : Fin 2) :
    ∑ d : Fin 128, (if d.val / 64 = u.val then f d else 0) = ∑ d : Fin 64, f ⟨64 * u.val + d.val, by omega⟩ := by
  have e := Fin.sum_univ_add (a := 64) (b := 64) (fun d : Fin (64 + 64) => if d.val / 64 = u.val then f d else 0)
  refine e.trans ?_
  match u with
  | ⟨0, _⟩ =>
    rw [show (∑ d : Fin 64, if (Fin.natAdd 64 d).val / 64 = 0 then f (Fin.natAdd 64 d) else 0) = 0 from
      Finset.sum_eq_zero fun d _ => if_neg (by have := d.isLt; show ¬ (64 + d.val) / 64 = 0; omega), add_zero]
    refine Finset.sum_congr rfl fun d _ => ?_
    have hd := d.isLt
    refine (if_pos (by show d.val / 64 = 0; omega)).trans (congrArg f (Fin.ext ?_))
    show d.val = 64 * 0 + d.val; omega
  | ⟨1, _⟩ =>
    rw [show (∑ d : Fin 64, if (Fin.castAdd 64 d).val / 64 = 1 then f (Fin.castAdd 64 d) else 0) = 0 from
      Finset.sum_eq_zero fun d _ => if_neg (by have := d.isLt; show ¬ d.val / 64 = 1; omega), zero_add]
    refine Finset.sum_congr rfl fun d _ => ?_
    have hd := d.isLt
    refine (if_pos (by show (64 + d.val) / 64 = 1; omega)).trans (congrArg f (Fin.ext ?_))
    show 64 + d.val = 64 * 1 + d.val; omega

/-- A head's queries and tiles, read at an index. -/
theorem qhead_at (x : Vec Ideal S512x256 .bf16) (hd : ℕ) (a : Fin 512) (d : Fin 128) (e : Fin 256) (he : e.val = 128 * (hd % 2) + d.val) :
    qhead x hd (ix2 a d) = x (ix2 a e) := by
  refine congrArg x (funext fun ax => Fin.ext ?_)
  match ax with
  | ⟨0, _⟩ => rfl
  | ⟨1, _⟩ => exact he.symm

theorem ktile_at (x : Vec Ideal S4096x256 .bf16) (hd j : ℕ) (n : Fin 512) (d : Fin 128) (k : Fin 4096) (hk : k.val = 512 * (j % 8) + n.val)
    (e : Fin 256) (he : e.val = 128 * (hd % 2) + d.val) : ktile x hd j (ix2 n d) = x (ix2 k e) := by
  refine congrArg x (funext fun ax => Fin.ext ?_)
  match ax with
  | ⟨0, _⟩ => exact hk.symm
  | ⟨1, _⟩ => exact he.symm

/-- A row normalized by its root mean square, and scaled. -/
def rms (o : Fin 128 → EReal) (g : EReal) (d : Fin 128) : EReal :=
  o d * Ideal.rsqrt (Ideal.div (∑ y : Fin 128, o y * o y) (Ideal.ofBits .f32 1124073472#32) + Ideal.ofBits .f32 897988541#32) * g
    * Ideal.ofBits .f32 1061997773#32

/-- The first head's output. -/
theorem out_first (l : FVec Ideal S1x1 .f32) (a s : Vec Ideal S1x1024x128 .f32) (g : Vec Ideal S1x128 .f32) (r : Fin 512) (d : Fin 128) :
    k0_pay146 l (k0_pay144 a) (k0_pay145 s) g (ix2 r d)
      = rms (fun y => Ideal.div (a (ix3 0 ⟨r.val, by omega⟩ y)) (∑ x : Fin 128, s (ix3 0 ⟨r.val, by omega⟩ x))
          - l (ix2 0 0) * Ideal.div (a (ix3 0 ⟨512 + r.val, by omega⟩ y)) (∑ x : Fin 128, s (ix3 0 ⟨512 + r.val, by omega⟩ x))) (g (ix2 0 d)) d := by
  pointwise [k0_pay146, k0_pay144, k0_pay145]
  rfl

/-- The second head's output. -/
theorem out_second (l : FVec Ideal S1x1 .f32) (a s : Vec Ideal S1x1024x128 .f32) (g : Vec Ideal S1x128 .f32) (r : Fin 512) (d : Fin 128) :
    k0_pay1 (k0_pay147 l a s) (k0_pay148 g) (k0_pay149 l a s) (ix2 r d)
      = rms (fun y => Ideal.div (a (ix3 0 ⟨r.val, by omega⟩ y)) (∑ x : Fin 128, s (ix3 0 ⟨r.val, by omega⟩ x))
          - l (ix2 0 0) * Ideal.div (a (ix3 0 ⟨512 + r.val, by omega⟩ y)) (∑ x : Fin 128, s (ix3 0 ⟨512 + r.val, by omega⟩ x))) (g (ix2 0 d)) d := by
  pointwise [k0_pay1, k0_pay147, k0_pay148, k0_pay149]
  rfl

/-- The weight of the second softmax. -/
theorem lam_at (x3 x4 x5 x6 : Vec Ideal S1x64 .f32) : k0_pay143 x3 x4 x5 x6 (ix2 0 0)
    = Ideal.exp (∑ x : Fin 64, x3 (ix2 0 x) * x4 (ix2 0 x)) - Ideal.exp (∑ x : Fin 64, x5 (ix2 0 x) * x6 (ix2 0 x)) + Ideal.ofBits .f32 1045220557#32 := by
  pointwise [k0_pay143]

variable (m : (ℓ : Loc nD τ sig) → Buf (Elt Ideal) ℓ) (c : Dev nD)

/-- The kernel's weight of the second softmax is the reference's. -/
theorem lam_eq (t : Fin cfg0.N) : k0_pay143 (iblk m c 3 t) (iblk m c 4 t) (iblk m c 5 t) (iblk m c 6 t) (ix2 0 0)
    = Ref.lam (m ((c : Thread nD τ).loc main_arg3)) (m ((c : Thread nD τ).loc main_arg4)) (m ((c : Thread nD τ).loc main_arg5)) (m ((c : Thread nD τ).loc main_arg6)) ix0 := by
  rw [lam_at]
  refine Eq.trans ?_ (Ref.lam_at _ _ _ _).symm
  refine congrArg (· + Ideal.ofBits .f32 1045220557#32) (congrArg₂ (· - ·) (congrArg Ideal.exp (Finset.sum_congr rfl fun x _ => ?_)) (congrArg Ideal.exp (Finset.sum_congr rfl fun x _ => ?_)))
  · exact congrArg₂ (· * ·) (vec3 m c t x) (vec4 m c t x)
  · exact congrArg₂ (· * ·) (vec5 m c t x) (vec6 m c t x)

section Finite

variable (Q K : S4x4096x4x2x64.Idx → ℝ) (V : S4x4096x4x128.Idx → ℝ)
  (hQ : ∀ y, m ((c : Thread nD τ).loc main_arg0) y = ((Q y : ℝ) : EReal)) (hK : ∀ y, m ((c : Thread nD τ).loc main_arg1) y = ((K y : ℝ) : EReal))
  (hV : ∀ y, m ((c : Thread nD τ).loc main_arg2) y = ((V y : ℝ) : EReal))

include hQ hK

/-- A head's scores at a point are the reference's. -/
theorem product (t : Fin cfg0.N) (hd : ℕ) (hh : hd < 2) (b h : Fin 4) (u : Fin 2) (p : Fin 4096) (r : Fin 1024) (a : Fin 512)
    (hb : b.val = t.val / 16) (hH : h.val = t.val / 8 % 2 * 2 + hd) (hr : r.val = 512 * u.val + a.val) (hp : p.val = t.val % 8 * 512 + a.val)
    (j : ℕ) (hj : j ≤ t.val % 8) (n : Fin 512) :
    ∑ d : Fin 128, stacked (iblk m c 0 t) hd (ix2 r d) * ktile (iblk m c 1 t) hd j (ix2 n d)
      = ((scoreOf Q K b h u p (512 * j + n.val) : ℝ) : EReal) := by
  have hn := n.isLt
  have hu := u.isLt
  have hj8 : j % 8 = j := Nat.mod_eq_of_lt (by omega)
  have hh2 : hd % 2 = hd := Nat.mod_eq_of_lt hh
  have hk : 512 * j + n.val < 4096 := by omega
  have e : ∀ d : Fin 128, stacked (iblk m c 0 t) hd (ix2 r d) * ktile (iblk m c 1 t) hd j (ix2 n d)
      = if d.val / 64 = u.val then qhead (iblk m c 0 t) hd (ix2 a d) * ktile (iblk m c 1 t) hd j (ix2 n d) else (0 : EReal) := fun d => by
    unfold stacked
    rw [stacked_at _ r d a u hr]
    split_ifs
    · rfl
    · exact zero_mul (M₀ := EReal) _
  rw [Finset.sum_congr rfl fun d _ => e d, sum_half (fun d => qhead (iblk m c 0 t) hd (ix2 a d) * ktile (iblk m c 1 t) hd j (ix2 n d)) u,
    scoreOf, dif_pos hk, Finset.sum_mul, coe_sum]
  refine Finset.sum_congr rfl fun d _ => ?_
  have hd' := d.isLt
  have e1 : qhead (iblk m c 0 t) hd (ix2 a ⟨64 * u.val + d.val, by omega⟩) = ((Q (ix5 b p h u d) : ℝ) : EReal) * Ideal.ofBits .f32 0x3E000000#32 :=
    (qhead_at _ hd a ⟨64 * u.val + d.val, by omega⟩ ⟨128 * hd + (64 * u.val + d.val), by omega⟩ (by rw [hh2])).trans
      (queries m c t a ⟨128 * hd + (64 * u.val + d.val), by omega⟩ b h p u d hb hp (by simp only []; omega) _ (hQ _))
  have e2 : ktile (iblk m c 1 t) hd j (ix2 n ⟨64 * u.val + d.val, by omega⟩) = ((K (ix5 b ⟨512 * j + n.val, hk⟩ h u d) : ℝ) : EReal) :=
    ((ktile_at _ hd j n ⟨64 * u.val + d.val, by omega⟩ ⟨512 * j + n.val, hk⟩ (by rw [hj8]) ⟨128 * hd + (64 * u.val + d.val), by omega⟩ (by rw [hh2])).trans
      (keys m c t ⟨512 * j + n.val, hk⟩ ⟨128 * hd + (64 * u.val + d.val), by omega⟩ b h u d hb (by simp only []; omega))).trans (hK _)
  rw [e1, e2, ofBits_eighth, ← EReal.coe_mul, ← EReal.coe_mul]
  exact congrArg (fun z : ℝ => (z : EReal)) (by ring)

include hV

/-- A head's quotient at a point is the softmax's average. -/
theorem quotient (t : Fin cfg0.N) (hd : ℕ) (hh : hd < 2) (b h : Fin 4) (u : Fin 2) (p : Fin 4096) (r : Fin 1024) (a : Fin 512)
    (hb : b.val = t.val / 16) (hH : h.val = t.val / 8 % 2 * 2 + hd) (hr : r.val = 512 * u.val + a.val) (hp : p.val = t.val % 8 * 512 + a.val) (d : Fin 128) :
    Ideal.div (valueOf (iblk m c 0 t) (iblk m c 1 t) (iblk m c 2 t) hd (t.val % 8) (ix3 0 r d))
        (∑ x : Fin 128, sumOf (iblk m c 0 t) (iblk m c 1 t) hd (t.val % 8) (ix3 0 r x))
      = ((att p.val (scoreOf Q K b h u p) (valueAt V b h d) : ℝ) : EReal) := by
  have ha := a.isLt
  have hu := u.isLt
  have hp' : p.val = 512 * (t.val % 8) + r.val % 512 := by omega
  rw [hp']
  unfold valueOf sumOf
  refine head_real (stacked (iblk m c 0 t) hd) (iblk m c 1 t) (iblk m c 2 t) hd (t.val % 8) r (scoreOf Q K b h u p)
    (product m c Q K hQ hK t hd hh b h u p r a hb hH hr hp) (valueAt V b h d) d fun j hj n => ?_
  have hn := n.isLt
  have hd' := d.isLt
  have hj8 : j % 8 = j := Nat.mod_eq_of_lt (by omega)
  have hh2 : hd % 2 = hd := Nat.mod_eq_of_lt hh
  have hk : 512 * j + n.val < 4096 := by omega
  rw [valueAt, dif_pos hk]
  exact ((ktile_at _ hd j n d ⟨512 * j + n.val, hk⟩ (by rw [hj8]) ⟨128 * hd + d.val, by omega⟩ (by rw [hh2])).trans
    (values m c t ⟨512 * j + n.val, hk⟩ ⟨128 * hd + d.val, by omega⟩ b h d hb (by simp only []; omega))).trans (hV _)

/-- A point's output at a place is the reference's there. -/
theorem place (L : ℝ) (hL : Ref.lam (m ((c : Thread nD τ).loc main_arg3)) (m ((c : Thread nD τ).loc main_arg4)) (m ((c : Thread nD τ).loc main_arg5)) (m ((c : Thread nD τ).loc main_arg6)) ix0 = (L : EReal))
    (t : Fin cfg0.N) (a : Fin 512) (e : Fin 256) (P : Fin 16384) (E : Fin 512)
    (hP : P.val = (t.val / 16 * 8 + t.val % 8) * 512 + a.val) (hE : E.val = t.val / 8 % 2 * 256 + e.val) :
    outAt (t.val % 8) (iblk m c 0 t) (iblk m c 1 t) (iblk m c 2 t) (iblk m c 3 t) (iblk m c 4 t) (iblk m c 5 t) (iblk m c 6 t) (iblk m c 7 t) (ix2 a e)
      = Ref.normed (Ref.mixed (m ((c : Thread nD τ).loc main_arg2)) (Ref.soft (m ((c : Thread nD τ).loc main_arg0)) (m ((c : Thread nD τ).loc main_arg1)))
          (Ref.lam (m ((c : Thread nD τ).loc main_arg3)) (m ((c : Thread nD τ).loc main_arg4)) (m ((c : Thread nD τ).loc main_arg5)) (m ((c : Thread nD τ).loc main_arg6))))
          (m ((c : Thread nD τ).loc main_arg7)) (ix2 P E) := by
  have ht : t.val < 64 := t.isLt
  have ha := a.isLt
  have he := e.isLt
  obtain ⟨b, hb⟩ : ∃ b : Fin 4, b.val = t.val / 16 := ⟨⟨t.val / 16, by omega⟩, rfl⟩
  obtain ⟨h, hH⟩ : ∃ h : Fin 4, h.val = t.val / 8 % 2 * 2 + e.val / 128 := ⟨⟨t.val / 8 % 2 * 2 + e.val / 128, by omega⟩, rfl⟩
  obtain ⟨p, hp⟩ : ∃ p : Fin 4096, p.val = t.val % 8 * 512 + a.val := ⟨⟨t.val % 8 * 512 + a.val, by omega⟩, rfl⟩
  obtain ⟨d, hd⟩ : ∃ d : Fin 128, d.val = e.val % 128 := ⟨⟨e.val % 128, by omega⟩, rfl⟩
  refine Eq.trans ?_ (Ref.normed_at _ _ P E b h p d (by omega) (by omega)).symm
  have hm : ∀ y : Fin 128, Ref.mixed (m ((c : Thread nD τ).loc main_arg2)) (Ref.soft (m ((c : Thread nD τ).loc main_arg0)) (m ((c : Thread nD τ).loc main_arg1)))
          (Ref.lam (m ((c : Thread nD τ).loc main_arg3)) (m ((c : Thread nD τ).loc main_arg4)) (m ((c : Thread nD τ).loc main_arg5)) (m ((c : Thread nD τ).loc main_arg6))) (ix4 b p h y)
      = ((att p.val (scoreOf Q K b h 0 p) (valueAt V b h y) : ℝ) : EReal) - (L : EReal) * ((att p.val (scoreOf Q K b h 1 p) (valueAt V b h y) : ℝ) : EReal) :=
    fun y => ref_mixed _ _ _ Q K V hQ hK hV _ L hL b h p y
  have hq : ∀ y : Fin 128, Ideal.div (valueOf (iblk m c 0 t) (iblk m c 1 t) (iblk m c 2 t) (e.val / 128) (t.val % 8) (ix3 0 ⟨a.val, by omega⟩ y))
        (∑ x : Fin 128, sumOf (iblk m c 0 t) (iblk m c 1 t) (e.val / 128) (t.val % 8) (ix3 0 ⟨a.val, by omega⟩ x))
      - k0_pay143 (iblk m c 3 t) (iblk m c 4 t) (iblk m c 5 t) (iblk m c 6 t) (ix2 0 0)
        * Ideal.div (valueOf (iblk m c 0 t) (iblk m c 1 t) (iblk m c 2 t) (e.val / 128) (t.val % 8) (ix3 0 ⟨512 + a.val, by omega⟩ y))
        (∑ x : Fin 128, sumOf (iblk m c 0 t) (iblk m c 1 t) (e.val / 128) (t.val % 8) (ix3 0 ⟨512 + a.val, by omega⟩ x))
      = ((att p.val (scoreOf Q K b h 0 p) (valueAt V b h y) : ℝ) : EReal) - (L : EReal) * ((att p.val (scoreOf Q K b h 1 p) (valueAt V b h y) : ℝ) : EReal) := fun y => by
    rw [quotient m c Q K V hQ hK hV t (e.val / 128) (by omega) b h 0 p ⟨a.val, by omega⟩ a hb hH (by simp) hp y,
      quotient m c Q K V hQ hK hV t (e.val / 128) (by omega) b h 1 p ⟨512 + a.val, by omega⟩ a hb hH (by simp) hp y, lam_eq, hL]
  have key : ∀ (o o' : Fin 128 → EReal) (g g' : EReal), (∀ y, o y = o' y) → g = g' → rms o g d = rms o' g' d :=
    fun o o' g g' ho hg => by rw [show o = o' from funext ho, hg]
  have hg : iblk m c 7 t (ix2 0 d) = m ((c : Thread nD τ).loc main_arg7) (ix1 d) := vec7 m c t d
  unfold outAt besides
  by_cases h1 : e.val < 128
  · refine (dif_pos h1).trans ?_
    have e0 : e.val / 128 = 0 := by omega
    rw [e0] at hq
    have ei : (fun ax => ⟨(![a.val, e.val] : Fin 2 → ℕ) ax, by
      match ax with
      | ⟨0, _⟩ => exact a.isLt
      | ⟨1, _⟩ => exact h1⟩ : S512x128.Idx) = ix2 a d := by
      funext ax
      match ax with
      | ⟨0, _⟩ => rfl
      | ⟨1, _⟩ => exact Fin.ext (by show e.val = d.val; omega)
    refine (congrArg _ ei).trans ((out_first _ _ _ _ a d).trans ?_)
    exact key _ _ _ _ (fun y => (hq y).trans (hm y).symm) hg
  · refine (dif_neg h1).trans ?_
    have e0 : e.val / 128 = 1 := by omega
    rw [e0] at hq
    have ei : (fun ax => ⟨(![a.val, e.val - 128] : Fin 2 → ℕ) ax, by
      match ax with
      | ⟨0, _⟩ => exact a.isLt
      | ⟨1, _⟩ => show e.val - 128 < 128; omega⟩ : S512x128.Idx) = ix2 a d := by
      funext ax
      match ax with
      | ⟨0, _⟩ => rfl
      | ⟨1, _⟩ => exact Fin.ext (by show e.val - 128 = d.val; omega)
    refine (congrArg _ ei).trans ((out_second _ _ _ _ a d).trans ?_)
    exact key _ _ _ _ (fun y => (hq y).trans (hm y).symm) hg

end Finite

end Cert.Proof.AttnValue

end
-- ==== Proof.AttnValue.Final.lean ====
/- The attention's value: on finite arguments its kernel and its reference end with equal results. -/
module

public import proofs.«01_k».proof.Defs
public import proofs.«01_k».proof.Proof.Gen.ReferenceIdeal.Run
public import proofs.«01_k».proof.Proof.AttnIdeal.Frame
public import proofs.«01_k».proof.Proof.AttnValue.Point
public import Idealize.ShloMosaic.Lib.Claim
public import Idealize.ShloMosaic.Lib.Decide

@[expose] public section

set_option maxRecDepth 16384

noncomputable section

namespace Cert.Proof.AttnValue

open Cert.KernelIdeal Cert.KernelIdeal.Gen Cert.Proof.AttnIdeal
open Idealize.ShloMosaic Idealize.ShloMosaic.TcCoe Idealize.SL.Sem

/-- The precondition's shapes. -/
theorem pre_facts : Cert.Pre_finite.Facts where
  bcast_S_S4x4096x4x2x64 := by decide
  bcast_S_S4x4096x4x128 := by decide
  bcast_S_S64 := by decide

/-- An array all of whose entries are of size below infinity has real entries. -/
theorem real_of_finite {s : Shape} (x : FVec Ideal s .f32) (h : Cert.Pre_finite.S_.BroadcastsInDim s (![] : Fin 0 → Fin s.rank))
    (e : cmpf .olt (Host.absf x) (broadcastInDim s ![] h (constant (F := Ideal) Cert.Pre_finite.S_ .f32 0x7F800000#32)) = fun _ => 1#1)
    (y : s.Idx) : x y = (((x y : EReal).toReal : ℝ) : EReal) := by
  have e' := congrFun e y
  pointwise at e'
  have et : Ideal.ofBits .f32 2139095040#32 = ⊤ := by simp [Ideal.ofBits, Ideal.ieee]
  by_cases hlt : (FloatOps.absf (x y) : Ideal .f32) < Ideal.ofBits .f32 2139095040#32
  · have hm : max (x y : EReal) (-(x y : EReal)) < ⊤ := et ▸ hlt
    obtain ⟨h1, h2⟩ := max_lt_iff.mp hm
    refine (EReal.coe_toReal (ne_of_lt h1) fun hb => ?_).symm
    rw [hb, EReal.neg_bot] at h2
    exact absurd rfl (ne_of_lt h2)
  · rw [decide_eq_false hlt] at e'
    exact absurd e' (by decide)

/-- The weight of the second softmax is a real number. -/
theorem lam_real (a₁ b₁ a₂ b₂ : FVec Ideal Cert.ReferenceIdeal.S64 .f32) (A₁ B₁ A₂ B₂ : Cert.ReferenceIdeal.S64.Idx → ℝ)
    (h₁ : ∀ y, a₁ y = ((A₁ y : ℝ) : EReal)) (k₁ : ∀ y, b₁ y = ((B₁ y : ℝ) : EReal))
    (h₂ : ∀ y, a₂ y = ((A₂ y : ℝ) : EReal)) (k₂ : ∀ y, b₂ y = ((B₂ y : ℝ) : EReal)) :
    ∃ L : ℝ, Ref.lam a₁ b₁ a₂ b₂ ix0 = (L : EReal) := by
  have ec : Ideal.ofBits .f32 1045220557#32 = ((13421773 / 67108864 : ℝ) : EReal) := by
    simp [Ideal.ofBits, Ideal.ieee, -EReal.coe_mul]; norm_num
  refine ⟨Real.exp (∑ x : Fin 64, A₁ (ix1 x) * B₁ (ix1 x)) - Real.exp (∑ x : Fin 64, A₂ (ix1 x) * B₂ (ix1 x)) + 13421773 / 67108864, ?_⟩
  rw [Ref.lam_at, ec, EReal.coe_add, EReal.coe_sub, ← Ideal.exp_coe, ← Ideal.exp_coe, coe_sum, coe_sum]
  simp only [h₁, k₁, h₂, k₂, EReal.coe_mul]

variable (m : (ℓ : Loc nD τ sig) → Buf (Elt Ideal) ℓ)

/-- The attention's result. -/
abbrev result (c : Dev nD) : Cert.KernelIdeal.S16384x512.Idx → Ideal .bf16 :=
  Ref.normed (Ref.mixed (m ((c : Thread nD τ).loc main_arg2)) (Ref.soft (m ((c : Thread nD τ).loc main_arg0)) (m ((c : Thread nD τ).loc main_arg1)))
    (Ref.lam (m ((c : Thread nD τ).loc main_arg3)) (m ((c : Thread nD τ).loc main_arg4)) (m ((c : Thread nD τ).loc main_arg5)) (m ((c : Thread nD τ).loc main_arg6))))
    (m ((c : Thread nD τ).loc main_arg7))

/-- What a point stores at a block index is the result's element at that index's place. -/
theorem point (pre : Cert.Pre_KernelIdeal_finite (hPre_finite := pre_facts) m) (c : Dev nD) (t : Fin cfg0.N) (y) :
    outAt (grid0.coords t 2).val (iblk m c 0 t) (iblk m c 1 t) (iblk m c 2 t) (iblk m c 3 t) (iblk m c 4 t) (iblk m c 5 t) (iblk m c 6 t) (iblk m c 7 t) y
      = result m c (((cfg0.win 8).blk t).view.emb y) := by
  obtain ⟨p0, p1, p2, p3, p4, p5, p6⟩ := pre c
  obtain ⟨L, hL⟩ := lam_real _ _ _ _ _ _ _ _ (real_of_finite (m ((c : Thread nD τ).loc main_arg3)) _ p3) (real_of_finite (m ((c : Thread nD τ).loc main_arg4)) _ p4)
    (real_of_finite (m ((c : Thread nD τ).loc main_arg5)) _ p5) (real_of_finite (m ((c : Thread nD τ).loc main_arg6)) _ p6)
  have e0 : (((View.whole main_v13).slice ((win0 8).rect t)).emb y 0).val = (t.val / 16 * 8 + t.val % 8) * 512 + (y 0).val := by blk_simp [places t]
  have e1 : (((View.whole main_v13).slice ((win0 8).rect t)).emb y 1).val = t.val / 8 % 2 * 256 + (y 1).val := by blk_simp [places t]
  rw [show (grid0.coords t 2).val = t.val % 8 from (places t).2.2.2.2.2.2.2.2.2]
  have k := place m c _ _ _ (real_of_finite (m ((c : Thread nD τ).loc main_arg0)) _ p0) (real_of_finite (m ((c : Thread nD τ).loc main_arg1)) _ p1)
    (real_of_finite (m ((c : Thread nD τ).loc main_arg2)) _ p2) L hL t (y 0) (y 1)
    (((View.whole main_v13).slice ((win0 8).rect t)).emb y 0) (((View.whole main_v13).slice ((win0 8).rect t)).emb y 1) e0 e1
  exact ((congrArg _ (eq_ix2 y)).trans k).trans (congrArg (result m c) (eq_ix2 (((View.whole main_v13).slice ((win0 8).rect t)).emb y)).symm)

/-- The result array after the run. -/
theorem final (pre : Cert.Pre_KernelIdeal_finite (hPre_finite := pre_facts) m) (c : Dev nD) : (dats m 0 c).arrAt 8 (cfgs 0).N = result m c := by
  refine (dats m 0 c).arrAt_eq_of_covers 8 _ (by decide +kernel) fun t _ y => ?_
  blk_simp
  rw [after_8]
  exact point m pre c t y

/-- From equal finite arguments the kernel and the reference end with equal results, and leave the arguments as they were. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' pre same
  refine ⟨fun c => result m c, ?_, ?_⟩
  · exact θ_run_mono (θ_run_and (run_arrays m g) (unchanged m g)) fun r h c => ⟨((h.1 c).1 8).trans (final m pre c), h.2.1 c⟩
  · refine θ_run_mono (Cert.ReferenceIdeal.Value.run m' g') fun r h c => ?_
    obtain ⟨o0, same'⟩ := h c
    obtain ⟨h0, h1, h2, h3, h4, h5, h6, h7⟩ := same c
    refine ⟨o0.trans ?_, same'⟩
    rw [Ref.result_eq, h0, h1, h2, h3, h4, h5, h6, h7]

end Cert.Proof.AttnValue

end
-- ==== Proof.Up.lean ====
module

public import proofs.«01_k».proof.Defs
public import proofs.«01_k».proof.Proof.Gen.UpIdeal.Frame
public import proofs.«01_k».proof.Proof.Gen.UpReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Up

section
open Cert.UpReferenceIdeal Cert.UpReferenceIdeal.Gen

/-- What the reference computes from the tokens and the weights. -/
abbrev result (x0 : FVec Ideal S4x4096x2048 .f32) (x1 : FVec Ideal S4x2048x11264 .f32) : FVec Ideal S16384x5632 .bf16 :=
  truncf .bf16 (shapeCast _ (mulf (broadcastInDim S4x4096x5632 ![] bcast_S_S4x4096x5632 (constant S_ .f32 0x3F000000#32)) (mulf (mulf (extractStridedSlice S4x4096x5632 ![0, 0, 0] (Host.dotGeneral dot_S4x4096x2048_S2048x11264_S4x4096x11264_2_0_01_1_n_n none x0 (shapeCast _ (extractStridedSlice S1x2048x11264 ![0, 0, 0] x1 slices_S4x2048x11264_S1x2048x11264_0_0_0) shapeCasts_S1x2048x11264_S2048x11264)) slices_S4x4096x11264_S4x4096x5632_0_0_0) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (extractStridedSlice S4x4096x5632 ![0, 0, 0] (Host.dotGeneral dot_S4x4096x2048_S2048x11264_S4x4096x11264_2_0_01_1_n_n none x0 (shapeCast _ (extractStridedSlice S1x2048x11264 ![0, 0, 0] x1 slices_S4x2048x11264_S1x2048x11264_0_0_0) shapeCasts_S1x2048x11264_S2048x11264)) slices_S4x4096x11264_S4x4096x5632_0_0_0)))))) (extractStridedSlice S4x4096x5632 ![0, 0, 5632] (Host.dotGeneral dot_S4x4096x2048_S2048x11264_S4x4096x11264_2_0_01_1_n_n none x0 (shapeCast _ (extractStridedSlice S1x2048x11264 ![0, 0, 0] x1 slices_S4x2048x11264_S1x2048x11264_0_0_0) shapeCasts_S1x2048x11264_S2048x11264)) slices_S4x4096x11264_S4x4096x5632_0_0_5632))) shapeCasts_S4x4096x5632_S16384x5632) bitsLt_bf16_f32

end

open Cert.UpIdeal Cert.UpIdeal.Gen

variable (m : (ℓ : Loc nD τ sig) → Buf (Elt Ideal) ℓ)

/-- Where each window's block sits at each point. -/
theorem places : ∀ t : Fin cfg0.N, win0_0.index t = ![t.val / 11, 0] ∧ win0_1.index t = ![0, 0, t.val % 11]
    ∧ win0_2.index t = ![0, 0, t.val % 11 + 11] ∧ win0_3.index t = ![t.val / 11, t.val % 11] :=
  (by decide +kernel : ∀ t : Fin grid0.N, _)

/-- The gate's columns: a point's block of them, read at an index. -/
theorem gates (c : Dev nD) (t : Fin cfg0.N) (k : Fin 2048) (b : Fin 512) (e : Fin 11264) (he : e.val = t.val % 11 * 512 + b.val) :
    iblk m c 1 t (ix3 0 k b) = m ((c : Thread nD τ).loc main_arg1) (ix3 0 k e) := by
  blk_simp [iblk]
  rw [V_main_arg1]
  blk_ext [places t]

/-- The other half of the columns, read the same way. -/
theorem values (c : Dev nD) (t : Fin cfg0.N) (k : Fin 2048) (b : Fin 512) (e : Fin 11264) (he : e.val = (t.val % 11 + 11) * 512 + b.val) :
    iblk m c 2 t (ix3 0 k b) = m ((c : Thread nD τ).loc main_arg1) (ix3 0 k e) := by
  blk_simp [iblk]
  rw [V_main_arg1]
  blk_ext [places t]

/-- The tokens' rows: a point's block of them, read at an index. -/
theorem rows (c : Dev nD) (t : Fin cfg0.N) (a : Fin 1024) (k : Fin 2048) (p : Fin 4) (q : Fin 4096)
    (h : p.val * 4096 + q.val = t.val / 11 * 1024 + a.val) :
    iblk m c 0 t (ix2 a k) = m ((c : Thread nD τ).loc main_arg0) (ix3 p q k) := by
  blk_simp [iblk]
  entry_read
  pointwise
  blk_ext [places t]

/-- A product with a sigmoid, bracketed either way, over equal factors. -/
theorem gated (h : EReal) {g u g' u' : EReal} (eg : g = g') (eu : u = u') :
    h * g * Ideal.logistic g * u = h * (g' * Ideal.div 1 (1 + Ideal.exp (-g')) * u') := by
  rw [← eg, ← eu, Ideal.logistic, mul_assoc h g, mul_assoc h]

set_option maxHeartbeats 2000000 in
/-- What point `t` stores at block index `y` is the result's element at the place of `y`. -/
theorem point (c : Dev nD) (t : Fin cfg0.N) (y) : k0_pay1 (iblk m c 0 t) (iblk m c 1 t) (iblk m c 2 t) y
    = result (m ((c : Thread nD τ).loc main_arg0)) (m ((c : Thread nD τ).loc main_arg1)) (((cfg0.win 3).blk t).view.emb y) := by
  have e0 : (((View.whole main_v2).slice ((win0 3).rect t)).emb y 0).val = t.val / 11 * 1024 + (y 0).val := by blk_simp [places t]
  have e1 : (((View.whole main_v2).slice ((win0 3).rect t)).emb y 1).val = t.val % 11 * 512 + (y 1).val := by blk_simp [places t]
  pointwise [k0_pay1, result]
  refine gated _ ?_ ?_
  · exact Finset.sum_congr rfl fun k _ => congrArg₂ (· * ·)
      (rows m c t (y 0) k _ _ (by simp only []; omega)) (gates m c t k (y 1) _ e1)
  · exact Finset.sum_congr rfl fun k _ => congrArg₂ (· * ·)
      (rows m c t (y 0) k _ _ (by simp only []; omega)) (values m c t k (y 1) _ (by simp only []; omega))

/-- The result array after the run. -/
theorem final (c : Dev nD) : (dats m 0 c).arrAt 3 (cfgs 0).N
    = result (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- From equal arguments the kernel and the reference end with equal results, and leave the arguments as they were. -/
theorem algebraic : Cert.algebraic_UpIdeal_UpReferenceIdeal (hUpIdeal := Cert.UpIdeal.Gen.facts)
    (hUpReferenceIdeal := Cert.UpReferenceIdeal.Gen.facts) := by
  intro m g m' g' _ same
  refine ⟨fun c => result (m ((c : Thread nD τ).loc main_arg0)) (m ((c : Thread nD τ).loc main_arg1)), ?_, ?_⟩
  · exact θ_run_mono (θ_run_and (run_main m g) (unchanged m g)) fun r h c => ⟨((h.1 c).1 3).trans (final m c), h.2 c⟩
  · refine θ_run_mono (Cert.UpReferenceIdeal.Value.run m' g') fun r h c => ?_
    obtain ⟨o0, same'⟩ := h c
    obtain ⟨h0, h1⟩ := same c
    refine ⟨o0.trans ?_, same'⟩
    · rw [h0, h1]

end Cert.Proof.Up

end
-- ==== Proof.Down.lean ====
module

public import proofs.«01_k».proof.Defs
public import proofs.«01_k».proof.Proof.Gen.DownIdeal.Frame
public import proofs.«01_k».proof.Proof.Gen.DownReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Down

section
open Cert.DownReferenceIdeal Cert.DownReferenceIdeal.Gen

/-- The stream after the feed-forward, as the reference computes it. -/
def result (x0 : FVec Ideal S4x4096x5632 .f32) (x1 : FVec Ideal S4x5632x2048 .f32) (x2 : FVec Ideal S4x4096x2048 .f32) : FVec Ideal S16384x2048 .f32 :=
  shapeCast _ (addf x2 (Host.dotGeneral dot_S4x4096x5632_S5632x2048_S4x4096x2048_2_0_01_1_n_n none x0 (shapeCast _ (extractStridedSlice S1x5632x2048 ![0, 0, 0] x1 slices_S4x5632x2048_S1x5632x2048_0_0_0) shapeCasts_S1x5632x2048_S5632x2048))) shapeCasts_S4x4096x2048_S16384x2048

/-- The stream divided by its root mean square, as the reference computes it. -/
def normed (x0 : FVec Ideal S4x4096x5632 .f32) (x1 : FVec Ideal S4x5632x2048 .f32) (x2 : FVec Ideal S4x4096x2048 .f32) (x3 : FVec Ideal S4x2048 .f32) : FVec Ideal S16384x2048 .bf16 :=
  truncf .bf16 (mulf (mulf (result x0 x1 x2) (broadcastInDim S16384x2048 ![0, 1] bcast_S16384x1_S16384x2048_0_1 (Host.rsqrt (addf (Host.divf (broadcastInDim S16384x1 ![0] bcast_S16384_S16384x1_0 (Host.reduceAdd (mulf (result x0 x1 x2) (result x0 x1 x2)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] x3 slices_S4x2048_S1x2048_0_0) shapeCasts_S1x2048_S2048)))) bitsLt_bf16_f32

end

open Cert.DownIdeal Cert.DownIdeal.Gen

variable (m : (ℓ : Loc nD τ sig) → Buf (Elt Ideal) ℓ)

/-- Where each window's block sits at each point. -/
theorem places : ∀ t : Fin cfg0.N, win0_0.index t = ![t.val, 0] ∧ win0_1.index t = ![0, 0, 0]
    ∧ win0_2.index t = ![t.val, 0] ∧ win0_3.index t = ![0, 0] ∧ win0_4.index t = ![t.val, 0] ∧ win0_5.index t = ![t.val, 0] :=
  (by decide +kernel : ∀ t : Fin grid0.N, _)

/-- The hidden rows: a point's block of them, read at an index. -/
theorem rows (c : Dev nD) (t : Fin cfg0.N) (a : Fin 512) (k : Fin 5632) (p : Fin 4) (q : Fin 4096)
    (h : p.val * 4096 + q.val = t.val * 512 + a.val) :
    iblk m c 0 t (ix2 a k) = m ((c : Thread nD τ).loc main_arg0) (ix3 p q k) := by
  blk_simp [iblk]
  entry_read
  pointwise
  blk_ext [places t]

/-- The weights, read at an index. -/
theorem weights (c : Dev nD) (t : Fin cfg0.N) (k : Fin 5632) (b : Fin 2048) :
    iblk m c 1 t (ix3 0 k b) = m ((c : Thread nD τ).loc main_arg1) (ix3 0 k b) := by
  blk_simp [iblk]
  entry_read
  pointwise
  blk_ext [places t]

/-- The stream's rows: a point's block of them, read at an index. -/
theorem stream (c : Dev nD) (t : Fin cfg0.N) (a : Fin 512) (k : Fin 2048) (p : Fin 4) (q : Fin 4096)
    (h : p.val * 4096 + q.val = t.val * 512 + a.val) :
    iblk m c 2 t (ix2 a k) = m ((c : Thread nD τ).loc main_arg2) (ix3 p q k) := by
  blk_simp [iblk]
  entry_read
  pointwise
  blk_ext [places t]

/-- The scale of each column, read at an index. -/
theorem scale (c : Dev nD) (t : Fin cfg0.N) (b : Fin 2048) :
    iblk m c 3 t (ix2 0 b) = m ((c : Thread nD τ).loc main_arg3) (ix2 0 b) := by
  blk_simp [iblk]
  entry_read
  pointwise
  blk_ext [places t]

set_option maxHeartbeats 2000000 in
/-- The sum a point computes is the reference's, at the row the point's block sits at. -/
theorem summed (c : Dev nD) (t : Fin cfg0.N) (a : Fin 512) (b : Fin 2048) (r : Fin 16384) (h : r.val = t.val * 512 + a.val) :
    k0_pay1 (iblk m c 2 t) (iblk m c 0 t) (iblk m c 1 t) (ix2 a b)
      = result (m ((c : Thread nD τ).loc main_arg0)) (m ((c : Thread nD τ).loc main_arg1)) (m ((c : Thread nD τ).loc main_arg2)) (ix2 r b) := by
  pointwise [k0_pay1, result]
  refine congrArg₂ (· + ·) (stream m c t a b _ _ (by simp only []; omega)) ?_
  exact Finset.sum_congr rfl fun k _ => congrArg₂ (· * ·)
    (rows m c t a k _ _ (by simp only []; omega)) (weights m c t k b)

/-- The same at any two indices that agree. -/
theorem summed_at (c : Dev nD) (t : Fin cfg0.N) (y : S512x2048.Idx) (z : S16384x2048.Idx) (h0 : (z 0).val = t.val * 512 + (y 0).val)
    (h1 : (z 1).val = (y 1).val) : k0_pay1 (iblk m c 2 t) (iblk m c 0 t) (iblk m c 1 t) y
      = result (m ((c : Thread nD τ).loc main_arg0)) (m ((c : Thread nD τ).loc main_arg1)) (m ((c : Thread nD τ).loc main_arg2)) z := by
  have ey : y = ix2 (y 0) (y 1) := by funext d; match d with | ⟨0, _⟩ => rfl | ⟨1, _⟩ => rfl
  have ez : z = ix2 (z 0) (y 1) := by funext d; match d with | ⟨0, _⟩ => rfl | ⟨1, _⟩ => exact Fin.ext h1
  rw [ey, ez]
  exact summed m c t (y 0) (y 1) (z 0) h0

set_option maxHeartbeats 2000000 in
/-- What point `t` stores at block index `y` is the result's element at the place of `y`. -/
theorem point (c : Dev nD) (t : Fin cfg0.N) (y) : k0_pay1 (iblk m c 2 t) (iblk m c 0 t) (iblk m c 1 t) y
    = result (m ((c : Thread nD τ).loc main_arg0)) (m ((c : Thread nD τ).loc main_arg1)) (m ((c : Thread nD τ).loc main_arg2)) (((cfg0.win 4).blk t).view.emb y) := by
  have e0 : (((View.whole main_v7_0).slice ((win0 4).rect t)).emb y 0).val = t.val * 512 + (y 0).val := by blk_simp [places t]
  have e1 : (((View.whole main_v7_0).slice ((win0 4).rect t)).emb y 1).val = (y 1).val := by blk_simp [places t]
  exact summed_at m c t y _ e0 e1

/-- The result array after the run. -/
theorem final (c : Dev nD) : (dats m 0 c).arrAt 4 (cfgs 0).N
    = result (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y
set_option maxHeartbeats 2000000 in
/-- What point `t` stores at block index `y` is the result's element at the place of `y`. -/
theorem point2 (c : Dev nD) (t : Fin cfg0.N) (y) : k0_pay2 (iblk m c 2 t) (iblk m c 0 t) (iblk m c 1 t) (iblk m c 3 t) y
    = normed (m ((c : Thread nD τ).loc main_arg0)) (m ((c : Thread nD τ).loc main_arg1)) (m ((c : Thread nD τ).loc main_arg2)) (m ((c : Thread nD τ).loc main_arg3)) (((cfg0.win 5).blk t).view.emb y) := by
  have e0 : (((View.whole main_v7_1).slice ((win0 5).rect t)).emb y 0).val = t.val * 512 + (y 0).val := by blk_simp [places t]
  have e1 : (((View.whole main_v7_1).slice ((win0 5).rect t)).emb y 1).val = (y 1).val := by blk_simp [places t]
  pointwise [k0_pay2, normed]
  refine congrArg₂ (· * ·) (congrArg₂ (fun u v => u * Ideal.rsqrt (Ideal.div v _ + _)) (summed_at m c t y _ e0 e1) ?_) ?_
  · exact Finset.sum_congr rfl fun k _ => congrArg (fun u => u * u) (summed m c t (y 0) k _ e0)
  · refine (scale m c t (y 1)).trans (congrArg _ ?_)
    funext d; match d with | ⟨0, _⟩ => rfl | ⟨1, _⟩ => exact Fin.ext e1.symm

/-- The result array after the run. -/
theorem final2 (c : Dev nD) : (dats m 0 c).arrAt 5 (cfgs 0).N
    = normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point2 m c t y

/-- From equal arguments the kernel and the reference end with equal results, and leave the arguments as they were. -/
theorem algebraic : Cert.algebraic_DownIdeal_DownReferenceIdeal (hDownIdeal := Cert.DownIdeal.Gen.facts)
    (hDownReferenceIdeal := Cert.DownReferenceIdeal.Gen.facts) := by
  intro m g m' g' _ same
  refine ⟨fun c => result (m ((c : Thread nD τ).loc main_arg0)) (m ((c : Thread nD τ).loc main_arg1)) (m ((c : Thread nD τ).loc main_arg2)), fun c => normed (m ((c : Thread nD τ).loc main_arg0)) (m ((c : Thread nD τ).loc main_arg1)) (m ((c : Thread nD τ).loc main_arg2)) (m ((c : Thread nD τ).loc main_arg3)), ?_, ?_⟩
  · exact θ_run_mono (θ_run_and (run_main m g) (unchanged m g)) fun r h c => ⟨((h.1 c).1 4).trans (final m c), ((h.1 c).1 5).trans (final2 m c), h.2 c⟩
  · refine θ_run_mono (Cert.DownReferenceIdeal.Value.run m' g') fun r h c => ?_
    obtain ⟨o0, o1, same'⟩ := h c
    obtain ⟨h0, h1, h2, h3⟩ := same c
    refine ⟨o0.trans ?_, o1.trans ?_, same'⟩
    · rw [h0, h1, h2]; rfl
    · rw [h0, h1, h2, h3]; rfl

end Cert.Proof.Down

end
-- ==== Proof.Gate.lean ====
module

public import proofs.«01_k».proof.Defs
public import proofs.«01_k».proof.Proof.Gen.GateIdeal.Frame
public import proofs.«01_k».proof.Proof.Gen.GateReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Gate

section
open Cert.GateReferenceIdeal Cert.GateReferenceIdeal.Gen

/-- What the reference computes from the tokens and the weights. -/
abbrev result (x0 : FVec Ideal S4x4096x2048 .f32) (x1 : FVec Ideal S4x2048x13312 .f32) : FVec Ideal S16384x8192 .bf16 :=
  truncf .bf16 (shapeCast _ (Host.divf (broadcastInDim S4x4096x8192 ![] bcast_S_S4x4096x8192 (constant S_ .f32 0x3F800000#32)) (addf (broadcastInDim S4x4096x8192 ![] bcast_S_S4x4096x8192 (constant S_ .f32 0x3F800000#32)) (Host.exp (Host.negf (extractStridedSlice S4x4096x8192 ![0, 0, 5120] (Host.dotGeneral dot_S4x4096x2048_S2048x13312_S4x4096x13312_2_0_01_1_n_n none x0 (shapeCast _ (extractStridedSlice S1x2048x13312 ![0, 0, 0] x1 slices_S4x2048x13312_S1x2048x13312_0_0_0) shapeCasts_S1x2048x13312_S2048x13312)) slices_S4x4096x13312_S4x4096x8192_0_0_5120))))) shapeCasts_S4x4096x8192_S16384x8192) bitsLt_bf16_f32

end

open Cert.GateIdeal Cert.GateIdeal.Gen

variable (m : (ℓ : Loc nD τ sig) → Buf (Elt Ideal) ℓ)

/-- Where each window's block sits at each point. -/
theorem places : ∀ t : Fin cfg0.N, win0_0.index t = ![t.val / 8, 0] ∧ win0_1.index t = ![0, 0, 5 + t.val % 8]
    ∧ win0_2.index t = ![t.val / 8, t.val % 8] :=
  (by decide +kernel : ∀ t : Fin grid0.N, _)

/-- The weights' columns: a point's block of them, read at an index. -/
theorem columns (c : Dev nD) (t : Fin cfg0.N) (k : Fin 2048) (b : Fin 1024) (e : Fin 13312) (he : e.val = (5 + t.val % 8) * 1024 + b.val) :
    iblk m c 1 t (ix3 0 k b) = m ((c : Thread nD τ).loc main_arg1) (ix3 0 k e) := by
  blk_simp [iblk]
  rw [V_main_arg1]
  blk_ext [places t]

/-- The tokens' rows: a point's block of them, read at an index. -/
theorem rows (c : Dev nD) (t : Fin cfg0.N) (a : Fin 2048) (k : Fin 2048) (p : Fin 4) (q : Fin 4096)
    (h : p.val * 4096 + q.val = t.val / 8 * 2048 + a.val) :
    iblk m c 0 t (ix2 a k) = m ((c : Thread nD τ).loc main_arg0) (ix3 p q k) := by
  blk_simp [iblk]
  entry_read
  pointwise
  blk_ext [places t]

/-- The sigmoid, written with an exponential, of equal numbers. -/
theorem sigmoid {g g' : EReal} (eg : g = g') : Ideal.logistic g = Ideal.div 1 (1 + Ideal.exp (-g')) := by
  rw [← eg, Ideal.logistic]

set_option maxHeartbeats 2000000 in
/-- What point `t` stores at block index `y` is the result's element at the place of `y`. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  have e0 : (((View.whole main_v2).slice ((win0 2).rect t)).emb y 0).val = t.val / 8 * 2048 + (y 0).val := by blk_simp [places t]
  have e1 : (((View.whole main_v2).slice ((win0 2).rect t)).emb y 1).val = t.val % 8 * 1024 + (y 1).val := by blk_simp [places t]
  pointwise [k0_pay1, result]
  refine sigmoid ?_
  exact Finset.sum_congr rfl fun k _ => congrArg₂ (· * ·)
    (rows m c t (y 0) k _ _ (by simp only []; omega)) (columns m c t k (y 1) _ (by simp only []; omega))

/-- The result array after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- From equal arguments the kernel and the reference end with equal results, and leave the arguments as they were. -/
theorem algebraic : Cert.algebraic_GateIdeal_GateReferenceIdeal (hGateIdeal := Cert.GateIdeal.Gen.facts)
    (hGateReferenceIdeal := Cert.GateReferenceIdeal.Gen.facts) := by
  intro m g m' g' _ same
  refine ⟨fun c => result (m ((c : Thread nD τ).loc main_arg0)) (m ((c : Thread nD τ).loc main_arg1)), ?_, ?_⟩
  · exact θ_run_mono (θ_run_and (run_main m g) (unchanged m g)) fun r h c => ⟨((h.1 c).1 2).trans (final m c), h.2 c⟩
  · refine θ_run_mono (Cert.GateReferenceIdeal.Value.run m' g') fun r h c => ?_
    obtain ⟨o0, same'⟩ := h c
    obtain ⟨h0, h1⟩ := same c
    refine ⟨o0.trans ?_, same'⟩
    · rw [h0, h1]

end Cert.Proof.Gate

end
-- ==== Proof.Merge.lean ====
module

public import proofs.«01_k».proof.Defs
public import proofs.«01_k».proof.Proof.Gen.MergeIdeal.Frame
public import proofs.«01_k».proof.Proof.Gen.MergeReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Merge

section
open Cert.MergeReferenceIdeal Cert.MergeReferenceIdeal.Gen

/-- What the reference computes from the branches, their gates and the weights. -/
abbrev result (x0 x1 x2 x3 : FVec Ideal S4x4096x512 .f32) (x4 : FVec Ideal S4x4096x4x2048 .f32) (x5 : FVec Ideal S4x4x512x2048 .f32) :
    FVec Ideal S16384x2048 .bf16 :=
  truncf .bf16 (shapeCast _ (addf (addf (addf (mulf (shapeCast _ (extractStridedSlice S4x4096x1x2048 ![0, 0, 0, 0] x4 slices_S4x4096x4x2048_S4x4096x1x2048_0_0_0_0) shapeCasts_S4x4096x1x2048_S4x4096x2048) (Host.dotGeneral dot_S4x4096x512_S512x2048_S4x4096x2048_2_0_01_1_n_n none x0 (shapeCast _ (extractStridedSlice S1x1x512x2048 ![0, 0, 0, 0] x5 slices_S4x4x512x2048_S1x1x512x2048_0_0_0_0) shapeCasts_S1x1x512x2048_S512x2048))) (mulf (shapeCast _ (extractStridedSlice S4x4096x1x2048 ![0, 0, 1, 0] x4 slices_S4x4096x4x2048_S4x4096x1x2048_0_0_1_0) shapeCasts_S4x4096x1x2048_S4x4096x2048) (Host.dotGeneral dot_S4x4096x512_S512x2048_S4x4096x2048_2_0_01_1_n_n none x1 (shapeCast _ (extractStridedSlice S1x1x512x2048 ![0, 1, 0, 0] x5 slices_S4x4x512x2048_S1x1x512x2048_0_1_0_0) shapeCasts_S1x1x512x2048_S512x2048)))) (mulf (shapeCast _ (extractStridedSlice S4x4096x1x2048 ![0, 0, 2, 0] x4 slices_S4x4096x4x2048_S4x4096x1x2048_0_0_2_0) shapeCasts_S4x4096x1x2048_S4x4096x2048) (Host.dotGeneral dot_S4x4096x512_S512x2048_S4x4096x2048_2_0_01_1_n_n none x2 (shapeCast _ (extractStridedSlice S1x1x512x2048 ![0, 2, 0, 0] x5 slices_S4x4x512x2048_S1x1x512x2048_0_2_0_0) shapeCasts_S1x1x512x2048_S512x2048)))) (mulf (shapeCast _ (extractStridedSlice S4x4096x1x2048 ![0, 0, 3, 0] x4 slices_S4x4096x4x2048_S4x4096x1x2048_0_0_3_0) shapeCasts_S4x4096x1x2048_S4x4096x2048) (Host.dotGeneral dot_S4x4096x512_S512x2048_S4x4096x2048_2_0_01_1_n_n none x3 (shapeCast _ (extractStridedSlice S1x1x512x2048 ![0, 3, 0, 0] x5 slices_S4x4x512x2048_S1x1x512x2048_0_3_0_0) shapeCasts_S1x1x512x2048_S512x2048)))) shapeCasts_S4x4096x2048_S16384x2048) bitsLt_bf16_f32

end

open Cert.MergeIdeal Cert.MergeIdeal.Gen

variable (m : (ℓ : Loc nD τ sig) → Buf (Elt Ideal) ℓ)

/-- Where each window's block sits at each point. -/
theorem places : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 1] ∧ win0_6.index t = ![t.val, 2]
    ∧ win0_7.index t = ![t.val, 3] ∧ win0_8.index t = ![0, 0, 0, 0] ∧ win0_9.index t = ![t.val, 0] :=
  (by decide +kernel : ∀ t : Fin grid0.N, _)

set_option maxHeartbeats 2000000 in
/-- A branch's rows: a point's block of each of the four branches, read at an index. -/
theorem rows (c : Dev nD) (t : Fin cfg0.N) (a k : Fin 512) (p : Fin 4) (q : Fin 4096) (h : p.val * 4096 + q.val = t.val * 512 + a.val) :
    iblk m c 0 t (ix2 a k) = m ((c : Thread nD τ).loc main_arg0) (ix3 p q k)
    ∧ iblk m c 1 t (ix2 a k) = m ((c : Thread nD τ).loc main_arg1) (ix3 p q k)
    ∧ iblk m c 2 t (ix2 a k) = m ((c : Thread nD τ).loc main_arg2) (ix3 p q k)
    ∧ iblk m c 3 t (ix2 a k) = m ((c : Thread nD τ).loc main_arg3) (ix3 p q k) := by
  refine ⟨?_, ?_, ?_, ?_⟩ <;>
  · blk_simp [iblk]
    entry_read
    pointwise
    blk_ext [places t]

set_option maxHeartbeats 2000000 in
/-- The gates: a point's block of each branch's gate, read at an index. -/
theorem gates (c : Dev nD) (t : Fin cfg0.N) (a : Fin 512) (e : Fin 2048) (p : Fin 4) (q : Fin 4096) (h : p.val * 4096 + q.val = t.val * 512 + a.val) :
    iblk m c 4 t (ix2 a e) = m ((c : Thread nD τ).loc main_arg4) (ix4 p q 0 e)
    ∧ iblk m c 5 t (ix2 a e) = m ((c : Thread nD τ).loc main_arg4) (ix4 p q 1 e)
    ∧ iblk m c 6 t (ix2 a e) = m ((c : Thread nD τ).loc main_arg4) (ix4 p q 2 e)
    ∧ iblk m c 7 t (ix2 a e) = m ((c : Thread nD τ).loc main_arg4) (ix4 p q 3 e) := by
  refine ⟨?_, ?_, ?_, ?_⟩ <;>
  · blk_simp [iblk]
    entry_read
    pointwise
    blk_ext [places t]

/-- The weights: the block every point reads, at an index. -/
theorem weights (c : Dev nD) (t : Fin cfg0.N) (b : Fin 4) (k : Fin 512) (e : Fin 2048) :
    iblk m c 8 t (ix4 0 b k e) = m ((c : Thread nD τ).loc main_arg5) (ix4 0 b k e) := by
  blk_simp [iblk]
  entry_read
  pointwise
  blk_ext [places t]

/-- The merge of a block: each branch's projection times its gate, added in order. -/
def mixed (x0 x1 x2 x3 : Vec Ideal S512x512 .bf16) (x4 x5 x6 x7 : Vec Ideal S512x2048 .bf16) (x8 : Vec Ideal S1x4x512x2048 .bf16) :
    Vec Ideal S512x2048 .bf16 := fun y =>
  ((((x4 y : EReal) * ∑ k : Fin 512, (x0 (ix2 (y 0) k) : EReal) * x8 (ix4 0 0 k (y 1)))
    + (x5 y : EReal) * ∑ k : Fin 512, (x1 (ix2 (y 0) k) : EReal) * x8 (ix4 0 1 k (y 1)))
    + (x6 y : EReal) * ∑ k : Fin 512, (x2 (ix2 (y 0) k) : EReal) * x8 (ix4 0 2 k (y 1)))
    + (x7 y : EReal) * ∑ k : Fin 512, (x3 (ix2 (y 0) k) : EReal) * x8 (ix4 0 3 k (y 1))

/-- The merge of a block at an index given by its coordinates. -/
theorem mixed_at (x0 x1 x2 x3 : Vec Ideal S512x512 .bf16) (x4 x5 x6 x7 : Vec Ideal S512x2048 .bf16) (x8 : Vec Ideal S1x4x512x2048 .bf16)
    (y : S512x2048.Idx) (a : Fin 512) (e : Fin 2048) (h0 : (y 0).val = a.val) (h1 : (y 1).val = e.val) :
    mixed x0 x1 x2 x3 x4 x5 x6 x7 x8 (ix2 a e) = mixed x0 x1 x2 x3 x4 x5 x6 x7 x8 y :=
  congrArg _ (funext fun i => Fin.ext (by fin_cases i <;> simp_all [ix2]))

set_option maxHeartbeats 4000000 in
/-- The four column stores together leave the merge of the block. -/
theorem stored (x0 x1 x2 x3 : Vec Ideal S512x512 .bf16) (x4 x5 x6 x7 : Vec Ideal S512x2048 .bf16) (x8 : Vec Ideal S1x4x512x2048 .bf16)
    (y : S512x2048.Idx) : out0_9 x0 x1 x2 x3 x4 x5 x6 x7 x8 y = mixed x0 x1 x2 x3 x4 x5 x6 x7 x8 y := by
  refine View.canon_apply_of_pieces (Val := Elt Ideal) (mixed x0 x1 x2 x3 x4 x5 x6 x7 x8) _ (fun p hp => ?_) y (cover0_9 _ _ _ _ y)
  simp only [List.mem_cons, List.not_mem_nil, or_false] at hp
  rcases hp with rfl | rfl | rfl | rfl <;> intro x <;>
  · dsimp only
    pointwise [k0_pay1, k0_pay2, k0_pay3, k0_pay4, k0_pay5, k0_pay6, k0_pay7, k0_pay8]
    refine mixed_at x0 x1 x2 x3 x4 x5 x6 x7 x8 _ (x 0) _ ?_ ?_ <;> blk_simp

/-- The merge at one token and column, in the arguments' own elements. -/
def total (x0 x1 x2 x3 : FVec Ideal S4x4096x512 .f32) (x4 : FVec Ideal S4x4096x4x2048 .f32) (x5 : FVec Ideal S4x4x512x2048 .f32)
    (p : Fin 4) (q : Fin 4096) (e : Fin 2048) : EReal :=
  (((x4 (ix4 p q 0 e) : EReal) * ∑ k : Fin 512, (x0 (ix3 p q k) : EReal) * x5 (ix4 0 0 k e)
    + (x4 (ix4 p q 1 e) : EReal) * ∑ k : Fin 512, (x1 (ix3 p q k) : EReal) * x5 (ix4 0 1 k e))
    + (x4 (ix4 p q 2 e) : EReal) * ∑ k : Fin 512, (x2 (ix3 p q k) : EReal) * x5 (ix4 0 2 k e))
    + (x4 (ix4 p q 3 e) : EReal) * ∑ k : Fin 512, (x3 (ix3 p q k) : EReal) * x5 (ix4 0 3 k e)

/-- The merge of a point's block is the merge of the arguments at the block's place. -/
theorem merged (c : Dev nD) (t : Fin cfg0.N) (a : Fin 512) (e : Fin 2048) (p : Fin 4) (q : Fin 4096) (h : p.val * 4096 + q.val = t.val * 512 + a.val) :
    mixed (iblk m c 0 t) (iblk m c 1 t) (iblk m c 2 t) (iblk m c 3 t) (iblk m c 4 t) (iblk m c 5 t) (iblk m c 6 t) (iblk m c 7 t) (iblk m c 8 t) (ix2 a e)
    = total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p q e := by
  obtain ⟨g0, g1, g2, g3⟩ := gates m c t a e p q h
  refine congrArg₂ (· + ·) (congrArg₂ (· + ·) (congrArg₂ (· + ·)
    (congrArg₂ (· * ·) g0 ?_) (congrArg₂ (· * ·) g1 ?_)) (congrArg₂ (· * ·) g2 ?_)) (congrArg₂ (· * ·) g3 ?_)
  · exact Finset.sum_congr rfl fun k _ => congrArg₂ (· * ·) (rows m c t a k p q h).1 (weights m c t 0 k e)
  · exact Finset.sum_congr rfl fun k _ => congrArg₂ (· * ·) (rows m c t a k p q h).2.1 (weights m c t 1 k e)
  · exact Finset.sum_congr rfl fun k _ => congrArg₂ (· * ·) (rows m c t a k p q h).2.2.1 (weights m c t 2 k e)
  · exact Finset.sum_congr rfl fun k _ => congrArg₂ (· * ·) (rows m c t a k p q h).2.2.2 (weights m c t 3 k e)

set_option maxHeartbeats 4000000 in
/-- What point `t` leaves at block index `y` is the result's element at the place of `y`. -/
theorem point (c : Dev nD) (t : Fin cfg0.N) (y) : out0_9 (iblk m c 0 t) (iblk m c 1 t) (iblk m c 2 t) (iblk m c 3 t) (iblk m c 4 t) (iblk m c 5 t) (iblk m c 6 t) (iblk m c 7 t) (iblk m c 8 t) y
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  have e0 : (((View.whole main_v11).slice ((win0 9).rect t)).emb y 0).val = t.val * 512 + (y 0).val := by blk_simp [places t]
  have e1 : (((View.whole main_v11).slice ((win0 9).rect t)).emb y 1).val = (y 1).val := by blk_simp [places t]
  rw [stored]
  pointwise [result]
  exact (mixed_at _ _ _ _ _ _ _ _ _ y (y 0) _ rfl e1.symm).symm.trans (merged m c t (y 0) _ _ _ (by simp only []; omega))

/-- The result array after the run. -/
theorem final (c : Dev nD) : (dats m 0 c).arrAt 9 (cfgs 0).N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  exact point m c t y

/-- From equal arguments the kernel and the reference end with equal results, and leave the arguments as they were. -/
theorem algebraic : Cert.algebraic_MergeIdeal_MergeReferenceIdeal (hMergeIdeal := Cert.MergeIdeal.Gen.facts)
    (hMergeReferenceIdeal := Cert.MergeReferenceIdeal.Gen.facts) := by
  intro m g m' g' _ same
  refine ⟨fun c => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · exact θ_run_mono (θ_run_and (run_main m g) (unchanged m g)) fun r h c => ⟨((h.1 c).1 9).trans (final m c), h.2 c⟩
  · refine θ_run_mono (Cert.MergeReferenceIdeal.Value.run m' g') fun r h c => ?_
    obtain ⟨o0, same'⟩ := h c
    obtain ⟨h0, h1, h2, h3, h4, h5⟩ := same c
    refine ⟨o0.trans ?_, same'⟩
    · rw [h0, h1, h2, h3, h4, h5]

end Cert.Proof.Merge

end
-- ==== Proof.Out.lean ====
module

public import proofs.«01_k».proof.Defs
public import proofs.«01_k».proof.Proof.Gen.OutIdeal.Frame
public import proofs.«01_k».proof.Proof.Gen.OutReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Out

section
open Cert.OutReferenceIdeal Cert.OutReferenceIdeal.Gen

/-- The stream after the output projection, as the reference computes it. -/
def result (x0 : FVec Ideal S4x4096x2048 .f32) (x1 : FVec Ideal S4x2048x2048 .f32) (x2 : FVec Ideal S4x4096x2048 .f32) : FVec Ideal S16384x2048 .f32 :=
  shapeCast _ (addf x2 (Host.dotGeneral dot_S4x4096x2048_S2048x2048_S4x4096x2048_2_0_01_1_n_n none x0 (shapeCast _ (extractStridedSlice S1x2048x2048 ![0, 0, 0] x1 slices_S4x2048x2048_S1x2048x2048_0_0_0) shapeCasts_S1x2048x2048_S2048x2048))) shapeCasts_S4x4096x2048_S16384x2048

/-- The stream divided by its root mean square, as the reference computes it. -/
def normed (x0 : FVec Ideal S4x4096x2048 .f32) (x1 : FVec Ideal S4x2048x2048 .f32) (x2 : FVec Ideal S4x4096x2048 .f32) (x3 : FVec Ideal S4x2048 .f32) : FVec Ideal S16384x2048 .bf16 :=
  truncf .bf16 (mulf (mulf (result x0 x1 x2) (broadcastInDim S16384x2048 ![0, 1] bcast_S16384x1_S16384x2048_0_1 (Host.rsqrt (addf (Host.divf (broadcastInDim S16384x1 ![0] bcast_S16384_S16384x1_0 (Host.reduceAdd (mulf (result x0 x1 x2) (result x0 x1 x2)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] x3 slices_S4x2048_S1x2048_0_0) shapeCasts_S1x2048_S2048)))) bitsLt_bf16_f32

end

open Cert.OutIdeal Cert.OutIdeal.Gen

variable (m : (ℓ : Loc nD τ sig) → Buf (Elt Ideal) ℓ)

/-- Where each window's block sits at each point. -/
theorem places : ∀ t : Fin cfg0.N, win0_0.index t = ![t.val, 0] ∧ win0_1.index t = ![0, 0, 0]
    ∧ win0_2.index t = ![t.val, 0] ∧ win0_3.index t = ![0, 0] ∧ win0_4.index t = ![t.val, 0] ∧ win0_5.index t = ![t.val, 0] :=
  (by decide +kernel : ∀ t : Fin grid0.N, _)

/-- The merged rows: a point's block of them, read at an index. -/
theorem rows (c : Dev nD) (t : Fin cfg0.N) (a : Fin 512) (k : Fin 2048) (p : Fin 4) (q : Fin 4096)
    (h : p.val * 4096 + q.val = t.val * 512 + a.val) :
    iblk m c 0 t (ix2 a k) = m ((c : Thread nD τ).loc main_arg0) (ix3 p q k) := by
  blk_simp [iblk]
  entry_read
  pointwise
  blk_ext [places t]

/-- The weights, read at an index. -/
theorem weights (c : Dev nD) (t : Fin cfg0.N) (k : Fin 2048) (b : Fin 2048) :
    iblk m c 1 t (ix3 0 k b) = m ((c : Thread nD τ).loc main_arg1) (ix3 0 k b) := by
  blk_simp [iblk]
  entry_read
  pointwise
  blk_ext [places t]

/-- The stream's rows: a point's block of them, read at an index. -/
theorem stream (c : Dev nD) (t : Fin cfg0.N) (a : Fin 512) (k : Fin 2048) (p : Fin 4) (q : Fin 4096)
    (h : p.val * 4096 + q.val = t.val * 512 + a.val) :
    iblk m c 2 t (ix2 a k) = m ((c : Thread nD τ).loc main_arg2) (ix3 p q k) := by
  blk_simp [iblk]
  entry_read
  pointwise
  blk_ext [places t]

/-- The scale of each column, read at an index. -/
theorem scale (c : Dev nD) (t : Fin cfg0.N) (b : Fin 2048) :
    iblk m c 3 t (ix2 0 b) = m ((c : Thread nD τ).loc main_arg3) (ix2 0 b) := by
  blk_simp [iblk]
  entry_read
  pointwise
  blk_ext [places t]

set_option maxHeartbeats 2000000 in
/-- The sum a point computes is the reference's, at the row the point's block sits at. -/
theorem summed (c : Dev nD) (t : Fin cfg0.N) (a : Fin 512) (b : Fin 2048) (r : Fin 16384) (h : r.val = t.val * 512 + a.val) :
    k0_pay1 (iblk m c 2 t) (iblk m c 0 t) (iblk m c 1 t) (ix2 a b)
      = result (m ((c : Thread nD τ).loc main_arg0)) (m ((c : Thread nD τ).loc main_arg1)) (m ((c : Thread nD τ).loc main_arg2)) (ix2 r b) := by
  pointwise [k0_pay1, result]
  refine congrArg₂ (· + ·) (stream m c t a b _ _ (by simp only []; omega)) ?_
  exact Finset.sum_congr rfl fun k _ => congrArg₂ (· * ·)
    (rows m c t a k _ _ (by simp only []; omega)) (weights m c t k b)

/-- The same at any two indices that agree. -/
theorem summed_at (c : Dev nD) (t : Fin cfg0.N) (y : S512x2048.Idx) (z : S16384x2048.Idx) (h0 : (z 0).val = t.val * 512 + (y 0).val)
    (h1 : (z 1).val = (y 1).val) : k0_pay1 (iblk m c 2 t) (iblk m c 0 t) (iblk m c 1 t) y
      = result (m ((c : Thread nD τ).loc main_arg0)) (m ((c : Thread nD τ).loc main_arg1)) (m ((c : Thread nD τ).loc main_arg2)) z := by
  have ey : y = ix2 (y 0) (y 1) := by funext d; match d with | ⟨0, _⟩ => rfl | ⟨1, _⟩ => rfl
  have ez : z = ix2 (z 0) (y 1) := by funext d; match d with | ⟨0, _⟩ => rfl | ⟨1, _⟩ => exact Fin.ext h1
  rw [ey, ez]
  exact summed m c t (y 0) (y 1) (z 0) h0

set_option maxHeartbeats 2000000 in
/-- What point `t` stores at block index `y` is the result's element at the place of `y`. -/
theorem point (c : Dev nD) (t : Fin cfg0.N) (y) : k0_pay1 (iblk m c 2 t) (iblk m c 0 t) (iblk m c 1 t) y
    = result (m ((c : Thread nD τ).loc main_arg0)) (m ((c : Thread nD τ).loc main_arg1)) (m ((c : Thread nD τ).loc main_arg2)) (((cfg0.win 4).blk t).view.emb y) := by
  have e0 : (((View.whole main_v7_0).slice ((win0 4).rect t)).emb y 0).val = t.val * 512 + (y 0).val := by blk_simp [places t]
  have e1 : (((View.whole main_v7_0).slice ((win0 4).rect t)).emb y 1).val = (y 1).val := by blk_simp [places t]
  exact summed_at m c t y _ e0 e1

/-- The result array after the run. -/
theorem final (c : Dev nD) : (dats m 0 c).arrAt 4 (cfgs 0).N
    = result (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y
set_option maxHeartbeats 2000000 in
/-- What point `t` stores at block index `y` is the result's element at the place of `y`. -/
theorem point2 (c : Dev nD) (t : Fin cfg0.N) (y) : k0_pay2 (iblk m c 2 t) (iblk m c 0 t) (iblk m c 1 t) (iblk m c 3 t) y
    = normed (m ((c : Thread nD τ).loc main_arg0)) (m ((c : Thread nD τ).loc main_arg1)) (m ((c : Thread nD τ).loc main_arg2)) (m ((c : Thread nD τ).loc main_arg3)) (((cfg0.win 5).blk t).view.emb y) := by
  have e0 : (((View.whole main_v7_1).slice ((win0 5).rect t)).emb y 0).val = t.val * 512 + (y 0).val := by blk_simp [places t]
  have e1 : (((View.whole main_v7_1).slice ((win0 5).rect t)).emb y 1).val = (y 1).val := by blk_simp [places t]
  pointwise [k0_pay2, normed]
  refine congrArg₂ (· * ·) (congrArg₂ (fun u v => u * Ideal.rsqrt (Ideal.div v _ + _)) (summed_at m c t y _ e0 e1) ?_) ?_
  · exact Finset.sum_congr rfl fun k _ => congrArg (fun u => u * u) (summed m c t (y 0) k _ e0)
  · refine (scale m c t (y 1)).trans (congrArg _ ?_)
    funext d; match d with | ⟨0, _⟩ => rfl | ⟨1, _⟩ => exact Fin.ext e1.symm

/-- The result array after the run. -/
theorem final2 (c : Dev nD) : (dats m 0 c).arrAt 5 (cfgs 0).N
    = normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point2 m c t y

/-- From equal arguments the kernel and the reference end with equal results, and leave the arguments as they were. -/
theorem algebraic : Cert.algebraic_OutIdeal_OutReferenceIdeal (hOutIdeal := Cert.OutIdeal.Gen.facts)
    (hOutReferenceIdeal := Cert.OutReferenceIdeal.Gen.facts) := by
  intro m g m' g' _ same
  refine ⟨fun c => result (m ((c : Thread nD τ).loc main_arg0)) (m ((c : Thread nD τ).loc main_arg1)) (m ((c : Thread nD τ).loc main_arg2)), fun c => normed (m ((c : Thread nD τ).loc main_arg0)) (m ((c : Thread nD τ).loc main_arg1)) (m ((c : Thread nD τ).loc main_arg2)) (m ((c : Thread nD τ).loc main_arg3)), ?_, ?_⟩
  · exact θ_run_mono (θ_run_and (run_main m g) (unchanged m g)) fun r h c => ⟨((h.1 c).1 4).trans (final m c), ((h.1 c).1 5).trans (final2 m c), h.2 c⟩
  · refine θ_run_mono (Cert.OutReferenceIdeal.Value.run m' g') fun r h c => ?_
    obtain ⟨o0, o1, same'⟩ := h c
    obtain ⟨h0, h1, h2, h3⟩ := same c
    refine ⟨o0.trans ?_, o1.trans ?_, same'⟩
    · rw [h0, h1, h2]; rfl
    · rw [h0, h1, h2, h3]; rfl

end Cert.Proof.Out

end
-- ==== Proof.lean ====
module

public import proofs.«01_k».proof.Defs
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpReferenceIdeal
public import proofs.«01_k».proof.Proof.Gen.UpReferenceIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownReferenceIdeal
public import proofs.«01_k».proof.Proof.Gen.DownReferenceIdeal.Run
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateReferenceIdeal
public import proofs.«01_k».proof.Proof.Gen.GateReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.ReferenceIdeal
public import proofs.«01_k».proof.Proof.Gen.ReferenceIdeal.Run
public import proofs.«01_k».proof.Proof.Gen.Kernel
public import proofs.«01_k».proof.Proof.Gen.KernelIdeal
public import proofs.«01_k».proof.Proof.AttnBits.Frame
public import proofs.«01_k».proof.Proof.AttnIdeal.Frame
public import proofs.«01_k».proof.Proof.AttnValue.Final
public import proofs.«01_k».proof.Proof.Up
public import proofs.«01_k».proof.Proof.Down
public import proofs.«01_k».proof.Proof.Gate
public import proofs.«01_k».proof.Proof.Merge
public import proofs.«01_k».proof.Proof.Out
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The attention reference leaves its arguments as they were; it has no semaphore. -/
theorem attention_reference_frame : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run m ρ)

/-- The reference of the up projection leaves its arguments as they were; it has no semaphore. -/
theorem up_reference_frame : Cert.quiescent_UpReferenceIdeal (hUpReferenceIdeal := Cert.UpReferenceIdeal.Gen.facts) :=
  fun m ρ _ => (θ_run _ _ _).mono (fun r h => ⟨fun c => (h c).2, sem_eq_zero_of_no_sems (by decide) r.2⟩)
    (Cert.UpReferenceIdeal.Value.run m ρ)

/-- The reference of the down projection leaves its arguments as they were; it has no semaphore. -/
theorem down_reference_frame : Cert.quiescent_DownReferenceIdeal (hDownReferenceIdeal := Cert.DownReferenceIdeal.Gen.facts) :=
  fun m ρ _ => (θ_run _ _ _).mono (fun r h => ⟨fun c => (h c).2.2, sem_eq_zero_of_no_sems (by decide) r.2⟩)
    (Cert.DownReferenceIdeal.Value.run m ρ)

/-- The reference of the gates leaves its arguments as they were; it has no semaphore. -/
theorem gate_reference_frame : Cert.quiescent_GateReferenceIdeal (hGateReferenceIdeal := Cert.GateReferenceIdeal.Gen.facts) :=
  fun m ρ _ => (θ_run _ _ _).mono (fun r h => ⟨fun c => (h c).2, sem_eq_zero_of_no_sems (by decide) r.2⟩)
    (Cert.GateReferenceIdeal.Value.run m ρ)

/-- The reference of the merge leaves its arguments as they were; it has no semaphore. -/
theorem merge_reference_frame : Cert.quiescent_MergeReferenceIdeal (hMergeReferenceIdeal := Cert.MergeReferenceIdeal.Gen.facts) :=
  fun m ρ _ => (θ_run _ _ _).mono (fun r h => ⟨fun c => (h c).2, sem_eq_zero_of_no_sems (by decide) r.2⟩)
    (Cert.MergeReferenceIdeal.Value.run m ρ)

/-- The reference of the output projection leaves its arguments as they were; it has no semaphore. -/
theorem out_reference_frame : Cert.quiescent_OutReferenceIdeal (hOutReferenceIdeal := Cert.OutReferenceIdeal.Gen.facts) :=
  fun m ρ _ => (θ_run _ _ _).mono (fun r h => ⟨fun c => (h c).2.2, sem_eq_zero_of_no_sems (by decide) r.2⟩)
    (Cert.OutReferenceIdeal.Value.run m ρ)

/-- The claim: every frame, the idealizations' rewrites, and the values of the attention, the four projections and the merge. -/
theorem claim : Cert.Claim :=
  ⟨Cert.Kernel.Gen.facts, Cert.KernelIdeal.Gen.facts, Cert.ReferenceIdeal.Gen.facts, Cert.Up.Gen.facts,
    Cert.UpIdeal.Gen.facts, Cert.UpReferenceIdeal.Gen.facts, Cert.Down.Gen.facts, Cert.DownIdeal.Gen.facts,
    Cert.DownReferenceIdeal.Gen.facts, Cert.Gate.Gen.facts, Cert.GateIdeal.Gen.facts, Cert.GateReferenceIdeal.Gen.facts,
    Cert.Merge.Gen.facts, Cert.MergeIdeal.Gen.facts, Cert.MergeReferenceIdeal.Gen.facts,
    Cert.Out.Gen.facts, Cert.OutIdeal.Gen.facts, Cert.OutReferenceIdeal.Gen.facts,
    Cert.Proof.AttnValue.pre_facts,
    fun m ρ _ => Cert.Proof.AttnBits.unchanged m ρ, fun m ρ _ => Cert.Proof.AttnIdeal.unchanged m ρ,
    fun m ρ _ => Cert.Proof.AttnIdeal.unchanged m ρ, attention_reference_frame, fun m ρ _ => attention_reference_frame m ρ trivial,
    fun m ρ _ => Cert.Up.Gen.frame m ρ, fun m ρ _ => Cert.UpIdeal.Gen.frame m ρ, up_reference_frame,
    fun m ρ _ => Cert.Down.Gen.frame m ρ, fun m ρ _ => Cert.DownIdeal.Gen.frame m ρ, down_reference_frame,
    fun m ρ _ => Cert.Gate.Gen.frame m ρ, fun m ρ _ => Cert.GateIdeal.Gen.frame m ρ, gate_reference_frame,
    fun m ρ _ => Cert.Merge.Gen.frame m ρ, fun m ρ _ => Cert.MergeIdeal.Gen.frame m ρ, merge_reference_frame,
    fun m ρ _ => Cert.Out.Gen.frame m ρ, fun m ρ _ => Cert.OutIdeal.Gen.frame m ρ, out_reference_frame,
    ⟨IdealRules.named_const.statement Cert.KernelIdeal.κ "mask" .f32 0xF149F2CA#32 _ rfl,
      IdealRules.named_const.statement Cert.KernelIdeal.κ "log2e" .f32 0x3FB8AA3B#32 _ rfl⟩,
    Cert.Proof.AttnValue.algebraic, trivial, Cert.Proof.Up.algebraic, trivial, Cert.Proof.Down.algebraic, trivial, Cert.Proof.Gate.algebraic,
    trivial, Cert.Proof.Merge.algebraic, trivial, Cert.Proof.Out.algebraic⟩

end Cert.Proof

end
